-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebook [hPre_finite_codebook : Cert.Pre_finite_codebook.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebook [hPre_finite_codebook : Cert.Pre_finite_codebook.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_codebook [hKernelIdeal : Cert.KernelIdeal.Facts] [hPre_finite_codebook : Cert.Pre_finite_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebook m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_codebook [hReferenceIdeal : Cert.ReferenceIdeal.Facts] [hPre_finite_codebook : Cert.Pre_finite_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebook m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "far" .f32 0x7F61B1E6#32 ⊤

def algebraic_KernelIdeal_ReferenceIdeal_pre_finite_codebook [hKernelIdeal : Cert.KernelIdeal.Facts] [hReferenceIdeal : Cert.ReferenceIdeal.Facts] [hPre_finite_codebook : Cert.Pre_finite_codebook.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebook m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_codebook : Cert.Pre_finite_codebook.Facts),
    quiescent_Kernel (hKernel := hKernel)
    ∧ quiescent_KernelIdeal (hKernelIdeal := hKernelIdeal)
    ∧ quiescent_KernelIdeal_pre_finite_codebook (hKernelIdeal := hKernelIdeal) (hPre_finite_codebook := hPre_finite_codebook)
    ∧ quiescent_ReferenceIdeal (hReferenceIdeal := hReferenceIdeal)
    ∧ quiescent_ReferenceIdeal_pre_finite_codebook (hReferenceIdeal := hReferenceIdeal) (hPre_finite_codebook := hPre_finite_codebook)
    ∧ preserves_Kernel_KernelIdeal
    ∧ algebraic_KernelIdeal_ReferenceIdeal_pre_finite_codebook (hKernelIdeal := hKernelIdeal) (hReferenceIdeal := hReferenceIdeal) (hPre_finite_codebook := hPre_finite_codebook)
-- ==== Pre_finite_codebook.lean ====
abbrev S16384x256 : Shape := ⟨2, ![16384, 256]⟩
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)

variable [Facts]

def fn {F : FTy → Type} [FloatOps F] (main_arg0 : FVec F S16384x256 .f32) (main_arg1 : FVec F S8192x256 .f32) (main_arg2 : FVec F S8192 .f32) : IVec S8192x256 1 :=
  let main_v0 : FVec F S8192x256 .f32 := Host.absf main_arg1
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  main_v2
-- ==== Kernel.lean ====
abbrev S16384x256 : Shape := ⟨2, ![16384, 256]⟩
abbrev S8192x256 : Shape := ⟨2, ![8192, 256]⟩
abbrev S8192 : Shape := ⟨1, ![8192]⟩
abbrev S2x256 : Shape := ⟨2, ![2, 256]⟩
abbrev S64x1x256 : Shape := ⟨3, ![64, 1, 256]⟩
abbrev S8192x1 : Shape := ⟨2, ![8192, 1]⟩
abbrev S512x256 : Shape := ⟨2, ![512, 256]⟩
abbrev S1x256 : Shape := ⟨2, ![1, 256]⟩
abbrev S256 : Shape := ⟨1, ![256]⟩
abbrev S256x256 : Shape := ⟨2, ![256, 256]⟩
abbrev S1x1x256 : Shape := ⟨3, ![1, 1, 256]⟩
abbrev S256x1 : Shape := ⟨2, ![256, 1]⟩
abbrev S512x1 : Shape := ⟨2, ![512, 1]⟩
abbrev S64x1 : Shape := ⟨2, ![64, 1]⟩
abbrev S64x256 : Shape := ⟨2, ![64, 256]⟩
abbrev S64 : Shape := ⟨1, ![64]⟩

abbrev nBuf : Space → Nat
  | .hbm => 10
  | .vmem => 31
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S8192, .f32⟩
  | .hbm, ⟨3, _⟩ => ⟨S2x256, .f32⟩
  | .hbm, ⟨4, _⟩ => ⟨S16384x256, .f32⟩
  | .hbm, ⟨5, _⟩ => ⟨S64x1x256, .i32⟩
  | .hbm, ⟨6, _⟩ => ⟨S8192x1, .f32⟩
  | .hbm, ⟨7, _⟩ => ⟨S8192x256, .f32⟩
  | .hbm, ⟨8, _⟩ => ⟨S8192x1, .f32⟩
  | .hbm, ⟨9, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S256x256, .f32⟩
  | .local _ .vmem, ⟨6, _⟩ => ⟨S256x256, .f32⟩
  | .local _ .vmem, ⟨7, _⟩ => ⟨S8192x256, .f32⟩
  | .local _ .vmem, ⟨8, _⟩ => ⟨S256x256, .f32⟩
  | .local _ .vmem, ⟨9, _⟩ => ⟨S256x256, .f32⟩
  | .local _ .vmem, ⟨10, _⟩ => ⟨S1x1x256, .i32⟩
  | .local _ .vmem, ⟨11, _⟩ => ⟨S1x1x256, .i32⟩
  | .local _ .vmem, ⟨12, _⟩ => ⟨S8192x1, .f32⟩
  | .local _ .vmem, ⟨13, _⟩ => ⟨S8192x1, .f32⟩
  | .local _ .vmem, ⟨14, _⟩ => ⟨S1x1x256, .i32⟩
  | .local _ .vmem, ⟨15, _⟩ => ⟨S1x1x256, .i32⟩
  | .local _ .vmem, ⟨16, _⟩ => ⟨S256x256, .f32⟩
  | .local _ .vmem, ⟨17, _⟩ => ⟨S256x256, .f32⟩
  | .local _ .vmem, ⟨18, _⟩ => ⟨S8192x256, .f32⟩
  | .local _ .vmem, ⟨19, _⟩ => ⟨S512x256, .bf16⟩
  | .local _ .vmem, ⟨20, _⟩ => ⟨S2x256, .f32⟩
  | .local _ .vmem, ⟨21, _⟩ => ⟨S512x256, .f32⟩
  | .local _ .vmem, ⟨22, _⟩ => ⟨S512x256, .f32⟩
  | .local _ .vmem, ⟨23, _⟩ => ⟨S512x1, .f32⟩
  | .local _ .vmem, ⟨24, _⟩ => ⟨S512x1, .f32⟩
  | .local _ .vmem, ⟨25, _⟩ => ⟨S512x256, .f32⟩
  | .local _ .vmem, ⟨26, _⟩ => ⟨S512x256, .f32⟩
  | .local _ .vmem, ⟨27, _⟩ => ⟨S512x1, .f32⟩
  | .local _ .vmem, ⟨28, _⟩ => ⟨S512x1, .f32⟩
  | .local _ .vmem, ⟨29, _⟩ => ⟨S512x256, .f32⟩
  | .local _ .vmem, ⟨30, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_call0_v1_1 : Ref sig .tc := ⟨.hbm, 5, rfl⟩
abbrev main_call0_v1_2 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_stg5_1 : Ref sig .tc := ⟨.vmem, 30, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem4_1 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨2, ![2, 32], ![false, false]⟩

def k0_cond4 (i : grid0.Coords) : BitVec 1 :=
  let arg0 : BitVec 32 := BitVec.ofNat 32 (i 0).val
  let c1_i32_6 : BitVec 32 := 1#32
  let v12 : BitVec 1 := Scalar.cmpi .eq arg0 c1_i32_6
  let arg1 : BitVec 32 := BitVec.ofNat 32 (i 1).val
  let c31_i32 : BitVec 32 := 31#32
  let v13 : BitVec 1 := Scalar.cmpi .eq arg1 c31_i32
  let v14 : BitVec 1 := Scalar.andi v12 v13
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨1, ![64], ![false]⟩

@[reducible] def k1_t1_loop : Scf.Loop 32 :=
  let c0_i32_9 : BitVec 32 := 0#32
  let c16_i32 : BitVec 32 := 16#32
  let v21 : BitVec 32 := Scalar.addi c0_i32_9 c16_i32
  let c1_i32 : BitVec 32 := 1#32
  ⟨c0_i32_9, v21, c1_i32⟩
def k1_off1 (k1_t1 : Fin k1_t1_loop.trips) : Fin 2 → Nat :=
  let c0_i32_9 : BitVec 32 := 0#32
  let c1_i32 : BitVec 32 := 1#32
  let arg8 : BitVec 32 := Scf.iv c0_i32_9 c1_i32 k1_t1
  let c512_i32 : BitVec 32 := 512#32
  let v29 : BitVec 32 := Scalar.muli arg8 c512_i32
  let v30 : Index := Scalar.indexCast v29
  let c0_20 : Index := 0#32
  ![v30.toNat, 0]
def k1_off2 (k1_t1 : Fin k1_t1_loop.trips) : Fin 2 → Nat :=
  let c0_i32_9 : BitVec 32 := 0#32
  let c1_i32 : BitVec 32 := 1#32
  let arg8 : BitVec 32 := Scf.iv c0_i32_9 c1_i32 k1_t1
  let c512_i32_22 : BitVec 32 := 512#32
  let v33 : BitVec 32 := Scalar.muli arg8 c512_i32_22
  let v34 : Index := Scalar.indexCast v33
  let c0_23 : Index := 0#32
  ![v34.toNat, 0]
@[reducible] def k1_t2_loop : Scf.Loop 32 :=
  let c0_i32_16 : BitVec 32 := 0#32
  let c16_i32_17 : BitVec 32 := 16#32
  let v28 : BitVec 32 := Scalar.addi c0_i32_16 c16_i32_17
  let c1_i32_18 : BitVec 32 := 1#32
  ⟨c0_i32_16, v28, c1_i32_18⟩
def k1_off3 (k1_t2 : Fin k1_t2_loop.trips) (c0_i32_22 : BitVec 32) : Fin 2 → Nat :=
  let c0_i32_16 : BitVec 32 := 0#32
  let c1_i32_18 : BitVec 32 := 1#32
  let arg8 : BitVec 32 := Scf.iv c0_i32_16 c1_i32_18 k1_t2
  let c512_i32_21 : BitVec 32 := 512#32
  let v38 : BitVec 32 := Scalar.muli arg8 c512_i32_21
  let v39 : BitVec 32 := Scalar.addi v38 c0_i32_22
  let v40 : Index := Scalar.indexCast v39
  let c0_23 : Index := 0#32
  ![v40.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8192x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![64], ![false]⟩

@[reducible] def k2_t1_loop : Scf.Loop 32 :=
  let c0_i32_5 : BitVec 32 := 0#32
  let c16_i32 : BitVec 32 := 16#32
  let v8 : BitVec 32 := Scalar.addi c0_i32_5 c16_i32
  let c1_i32 : BitVec 32 := 1#32
  ⟨c0_i32_5, v8, c1_i32⟩
def k2_off1 (k2_t1 : Fin k2_t1_loop.trips) : Fin 2 → Nat :=
  let c0_i32_5 : BitVec 32 := 0#32
  let c1_i32 : BitVec 32 := 1#32
  let arg5 : BitVec 32 := Scf.iv c0_i32_5 c1_i32 k2_t1
  let c512_i32_26 : BitVec 32 := 512#32
  let v115 : BitVec 32 := Scalar.muli arg5 c512_i32_26
  let v116 : Index := Scalar.indexCast v115
  let c0_27 : Index := 0#32
  ![v116.toNat, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1x256 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8192x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== KernelIdeal.lean ====
variable {F : FTy → Type} [FloatOps F] [Named F]
def κ : String → Option EReal := fun
  | "far" => some ⊤
  | _ => none
-- ==== ReferenceIdeal.lean ====
abbrev S16384x256 : Shape := ⟨2, ![16384, 256]⟩
abbrev S8192x256 : Shape := ⟨2, ![8192, 256]⟩
abbrev S8192 : Shape := ⟨1, ![8192]⟩
abbrev S_ : Shape := ⟨0, ![]⟩
abbrev S256 : Shape := ⟨1, ![256]⟩
abbrev S1x256 : Shape := ⟨2, ![1, 256]⟩
abbrev S16384 : Shape := ⟨1, ![16384]⟩
abbrev S16384x1 : Shape := ⟨2, ![16384, 1]⟩
abbrev S1x8192 : Shape := ⟨2, ![1, 8192]⟩
abbrev S16384x8192 : Shape := ⟨2, ![16384, 8192]⟩
abbrev S256x8192 : Shape := ⟨2, ![256, 8192]⟩
abbrev S8192x1 : Shape := ⟨2, ![8192, 1]⟩

abbrev nBuf : Space → Nat
  | .hbm => 118
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S8192, .f32⟩
  | .hbm, ⟨3, _⟩ => ⟨S_, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S_, .i32⟩
  | .hbm, ⟨9, _⟩ => ⟨S_, .f32⟩
  | .hbm, ⟨10, _⟩ => ⟨S256, .f32⟩
  | .hbm, ⟨11, _⟩ => ⟨S1x256, .f32⟩
  | .hbm, ⟨12, _⟩ => ⟨S_, .f32⟩
  | .hbm, ⟨13, _⟩ => ⟨S1x256, .f32⟩
  | .hbm, ⟨14, _⟩ => ⟨S1x256, .f32⟩
  | .hbm, ⟨15, _⟩ => ⟨S16384x256, .f32⟩
  | .hbm, ⟨16, _⟩ => ⟨S16384x256, .f32⟩
  | .hbm, ⟨17, _⟩ => ⟨S16384x256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S1x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S1x256, .f32⟩
  | .hbm, ⟨39, _⟩ => ⟨S16384x256, .f32⟩
  | .hbm, ⟨40, _⟩ => ⟨S16384x256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S16384x256, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S8192x256, .f32⟩
  | .hbm, ⟨49, _⟩ => ⟨S_, .f32⟩
  | .hbm, ⟨50, _⟩ => ⟨S8192, .f32⟩
  | .hbm, ⟨51, _⟩ => ⟨S1x8192, .f32⟩
  | .hbm, ⟨52, _⟩ => ⟨S16384x8192, .f32⟩
  | .hbm, ⟨53, _⟩ => ⟨S16384x8192, .f32⟩
  | .hbm, ⟨54, _⟩ => ⟨S16384x8192, .f32⟩
  | .hbm, ⟨55, _⟩ => ⟨S256x8192, .f32⟩
  | .hbm, ⟨56, _⟩ => ⟨S16384x8192, .f32⟩
  | .hbm, ⟨57, _⟩ => ⟨S_, .f32⟩
  | .hbm, ⟨58, _⟩ => ⟨S16384x8192, .f32⟩
  | .hbm, ⟨59, _⟩ => ⟨S16384x8192, .f32⟩
  | .hbm, ⟨60, _⟩ => ⟨S16384x8192, .f32⟩
  | .hbm, ⟨61, _⟩ => ⟨S16384x8192, .i32⟩
  | .hbm, ⟨62, _⟩ => ⟨S_, .f32⟩
  | .hbm, ⟨63, _⟩ => ⟨S_, .i32⟩
  | .hbm, ⟨64, _⟩ => ⟨S16384, .f32⟩
  | .hbm, ⟨65, _⟩ => ⟨S16384, .i32⟩
  | .hbm, ⟨66, _⟩ => ⟨S_, .f32⟩
  | .hbm, ⟨67, _⟩ => ⟨S8192x256, .f32⟩
  | .hbm, ⟨68, _⟩ => ⟨S16384x1, .i32⟩
  | .hbm, ⟨69, _⟩ => ⟨S8192x256, .f32⟩
  | .hbm, ⟨70, _⟩ => ⟨S_, .i32⟩
  | .hbm, ⟨71, _⟩ => ⟨S8192, .i32⟩
  | .hbm, ⟨72, _⟩ => ⟨S_, .i32⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S16384, .i32⟩
  | .hbm, ⟨83, _⟩ => ⟨S16384x1, .i32⟩
  | .hbm, ⟨84, _⟩ => ⟨S_, .i32⟩
  | .hbm, ⟨85, _⟩ => ⟨S16384, .i32⟩
  | .hbm, ⟨86, _⟩ => ⟨S8192, .i32⟩
  | .hbm, ⟨87, _⟩ => ⟨S8192, .f32⟩
  | .hbm, ⟨88, _⟩ => ⟨S8192x1, .f32⟩
  | .hbm, ⟨89, _⟩ => ⟨S8192x256, .f32⟩
  | .hbm, ⟨90, _⟩ => ⟨S8192x256, .f32⟩
  | .hbm, ⟨91, _⟩ => ⟨S_, .f32⟩
  | .hbm, ⟨92, _⟩ => ⟨S8192x256, .f32⟩
  | .hbm, ⟨93, _⟩ => ⟨S8192x256, .f32⟩
  | .hbm, ⟨94, _⟩ => ⟨S_, .f32⟩
  | .hbm, ⟨95, _⟩ => ⟨S8192x256, .f32⟩
  | .hbm, ⟨96, _⟩ => ⟨S8192x256, .f32⟩
  | .hbm, ⟨97, _⟩ => ⟨S8192x256, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S_, .f32⟩
  | .hbm, ⟨102, _⟩ => ⟨S8192, .f32⟩
  | .hbm, ⟨103, _⟩ => ⟨S8192, .f32⟩
  | .hbm, ⟨104, _⟩ => ⟨S8192, .f32⟩
  | .hbm, ⟨105, _⟩ => ⟨S8192x1, .f32⟩
  | .hbm, ⟨106, _⟩ => ⟨S8192x256, .f32⟩
  | .hbm, ⟨107, _⟩ => ⟨S8192x256, .f32⟩
  | .hbm, ⟨108, _⟩ => ⟨S_, .f32⟩
  | .hbm, ⟨109, _⟩ => ⟨S256, .f32⟩
  | .hbm, ⟨110, _⟩ => ⟨S256, .f32⟩
  | .hbm, ⟨111, _⟩ => ⟨S256, .f32⟩
  | .hbm, ⟨112, _⟩ => ⟨S1x256, .f32⟩
  | .hbm, ⟨113, _⟩ => ⟨S8192x256, .f32⟩
  | .hbm, ⟨114, _⟩ => ⟨S8192x256, .f32⟩
  | .hbm, ⟨115, _⟩ => ⟨S1x256, .f32⟩
  | .hbm, ⟨116, _⟩ => ⟨S8192x256, .f32⟩
  | .hbm, ⟨117, _⟩ => ⟨S8192x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_cst_3 : Ref sig .tc := ⟨.hbm, 25, rfl⟩
abbrev main_call0_v12 : Ref sig .tc := ⟨.hbm, 26, rfl⟩
abbrev main_call0_cst_4 : Ref sig .tc := ⟨.hbm, 27, rfl⟩
abbrev main_call0_call0_v0 : Ref sig .tc := ⟨.hbm, 28, rfl⟩
abbrev main_call0_call0_v1 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call1_v0 : Ref sig .tc := ⟨.hbm, 61, rfl⟩
abbrev main_call1_cst : Ref sig .tc := ⟨.hbm, 62, rfl⟩
abbrev main_call1_c : Ref sig .tc := ⟨.hbm, 63, rfl⟩
abbrev main_call1_v1_0 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_7 : Ref sig .tc := ⟨.hbm, 70, rfl⟩
abbrev main_v33 : Ref sig .tc := ⟨.hbm, 71, rfl⟩
abbrev main_c_8 : Ref sig .tc := ⟨.hbm, 72, rfl⟩
abbrev main_call2_v0 : Ref sig .tc := ⟨.hbm, 73, rfl⟩
abbrev main_call2_v1 : Ref sig .tc := ⟨.hbm, 74, rfl⟩
abbrev main_v34 : Ref sig .tc := ⟨.hbm, 75, rfl⟩
abbrev main_c_9 : Ref sig .tc := ⟨.hbm, 76, rfl⟩
abbrev main_v35 : Ref sig .tc := ⟨.hbm, 77, rfl⟩
abbrev main_v36 : Ref sig .tc := ⟨.hbm, 78, rfl⟩
abbrev main_c_10 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_11 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_12 : Ref sig .tc := ⟨.hbm, 91, rfl⟩
abbrev main_v47 : Ref sig .tc := ⟨.hbm, 92, rfl⟩
abbrev main_v48 : Ref sig .tc := ⟨.hbm, 93, rfl⟩
abbrev main_cst_13 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_14 : Ref sig .tc := ⟨.hbm, 98, rfl⟩
abbrev main_v52 : Ref sig .tc := ⟨.hbm, 99, rfl⟩
abbrev main_v53 : Ref sig .tc := ⟨.hbm, 100, rfl⟩
abbrev main_cst_15 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_16 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩

abbrev nD : Nat := 1
abbrev τ : Topo := Topo.v7x

variable {F : FTy → Type} [FloatOps F]
-- ==== Proof.Base.lean ====
/-
  Reading a buffer after a list of stores: every load is a window of what the buffer reads as, every store puts its
  payload over a window.
-/
module

public import Idealize.ShloMosaic.Lib.Pipeline.Kit
public import Idealize.ShloMosaic.Lib.Tactic
public import Idealize.ShloMosaic.Lib.VecWindow

@[expose] public section

set_option maxRecDepth 16384

noncomputable section

namespace Cert.Proof

open Idealize.ShloMosaic Idealize.ShloMosaic.VecWindow

variable {sig : RefSig} {κ : Kind} {sp : Space} {s : Shape} {e : EltTy} {Val : EltTy → Type}

/-- A load at a unit-stride rectangle reads a window of what the view reads. -/
theorem readAt_win (v : View sig κ sp s e) (f : v.ty.Contents Val) {off size : Fin s.rank → ℕ} (inb : ∀ a, off a + size a ≤ s.size a) :
    v.readAt Val (Rect.unit off size inb).toLoadRect f = window (v.read Val f) off size inb := rfl

/-- A load placed over a list of stores reads a window of what those stores left over anything. -/
theorem readCov_win [∀ e, Nonempty (Val e)] (v : View sig κ sp s e) (L : List (View.Piece Val s e)) {off size : Fin s.rank → ℕ}
    (inb : ∀ a, off a + size a ≤ s.size a) :
    v.readCov L (Rect.unit off size inb).toLoadRect = window (v.read Val (v.writes Val v.junk L)) off size inb := rfl

/-- The window of the shape's own sizes is everything. -/
theorem window_full {α : Type} (x : s.Idx → α) {off : Fin s.rank → ℕ} (inb : ∀ a, off a + s.size a ≤ s.size a) :
    window x off s.size inb = x := funext fun z => congrArg x (Rect.emb_unit_full inb z)

/-- What a list of stores leaves: the newest store's payload put over what the others left. -/
theorem read_cons_put (v : View sig κ sp s e) (f : v.ty.Contents Val) {off size : Fin s.rank → ℕ}
    (inb : ∀ a, off a + size a ≤ s.size a) (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- What is put over everything is what is left. -/
theorem put_full {α : Type} (x w : s.Idx → α) {off : Fin s.rank → ℕ} (inb : ∀ a, off a + s.size a ≤ s.size a) :
    put x off s.size w = w := by
  have h := window_put_same x off s.size inb w
  rw [window_full] at h
  exact h

end Cert.Proof

end
-- ==== Proof.Body0.lean ====
/-
  The statistics kernel's body, as one function of what it finds: the running sums after a grid point and the
  result the last point stores, with the proof that the body run on whole buffers leaves exactly these.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Kit
public import Idealize.ShloMosaic.Lib.Tactic
public import proofs.«01_k».proof.Proof.Base

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F] [Named F]

local notation "𝕄" => MT nD τ sig Unit (Elt F) ℕ (UR sig nD τ) ℕ

/-- The sums are zeroed: the first point. -/
abbrev first0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The pass that sums the rows. -/
abbrev sumPass0 (i : grid0.Coords) : Prop := (Scalar.cmpi .ne (Scalar.extui (Scalar.cmpi .eq (BitVec.ofNat 32 (i 0).val) 0#32)) 0#32) = 1#1
/-- The pass that sums the squared deviations. -/
abbrev devPass0 (i : grid0.Coords) : Prop := (Scalar.cmpi .ne (Scalar.extui (Scalar.cmpi .eq (BitVec.ofNat 32 (i 0).val) 1#32)) 0#32) = 1#1
/-- The result is stored: the last point. -/
abbrev last0 (i : grid0.Coords) : Prop := k0_cond4 i = 1#1

/-- The sums after a point of the first pass that found them at `a`. -/
def sumStep (x : Vec F S512x256 .f32) (a : Vec F S2x256 .f32) : Vec F S2x256 .f32 :=
  put (s := S2x256) a ![0, 0] S1x256.size (k0_pay2 x (window (s := S2x256) a ![0, 0] S1x256.size inb_S2x256_S1x256_0_0))

/-- The sums after a point of the second pass that found them at `a`. -/
def devStep (x : Vec F S512x256 .f32) (a : Vec F S2x256 .f32) : Vec F S2x256 .f32 :=
  put (s := S2x256) a ![1, 0] S1x256.size (k0_pay3 x (window (s := S2x256) a ![0, 0] S1x256.size inb_S2x256_S1x256_0_0)
    (window (s := S2x256) a ![1, 0] S1x256.size inb_S2x256_S1x256_1_0))

set_option maxHeartbeats 1000000 in
/-- The first point: from any sums, one step of the first pass from zero. -/
theorem body0_first (c : Dev nD) (i : grid0.Coords) (arg2 : Memref sig .tc .vmem S512x256 .f32) (harg2 : arg2.IsWhole) (arg3 : Memref sig .tc .vmem S2x256 .f32) (harg3 : arg3.IsWhole) (arg4 : Memref sig .tc .vmem S2x256 .f32) (harg4 : arg4.IsWhole)
    (hc0 : first0 i) (hc1 : sumPass0 i) (hc2 : ¬devPass0 i) (hc3 : ¬last0 i)
    (x : Vec F S512x256 .f32) (o a : Vec F S2x256 .f32) (E : Set ℕ) (K : PUnit → sProp 𝕄) :
    iprop(owns (c : Thread nD τ) arg2 fullShare x ∗ owns (c : Thread nD τ) arg3 fullShare o ∗ owns (c : Thread nD τ) arg4 fullShare a
        ∗ (iprop(owns (c : Thread nD τ) arg2 fullShare x ∗ owns (c : Thread nD τ) arg3 fullShare o ∗ owns (c : Thread nD τ) arg4 fullShare (sumStep x (k0_pay1 (F := F)))) -∗ K ⟨⟩))
      ⊢ wp frame (wpE (defs₀ (F := F)) Variants.none c none) E (cc0__stats_body i arg2 harg2 arg3 harg3 arg4 harg4) K := by
  simp only [cc0__stats_body_eq_skeleton]; unfold cc0__stats_body_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; swap; · iexact H1
    ipureintro
    exact harg3.read_unread _
  iexists _; isplitr; swap; · iexact HS0
  ipureintro
  sl_unfold_run_names
  simp only [read_cons_put, readAt_win, readCov_win, View.writes_nil, harg2.read_unread, harg4.read_unread, window_full (s := S512x256), window_full (s := S2x256), put_full (s := S2x256) _ _ inb_S2x256_S2x256_0_0]
  rfl

set_option maxHeartbeats 1000000 in
/-- A later point of the first pass. -/
theorem body0_sum (c : Dev nD) (i : grid0.Coords) (arg2 : Memref sig .tc .vmem S512x256 .f32) (harg2 : arg2.IsWhole) (arg3 : Memref sig .tc .vmem S2x256 .f32) (harg3 : arg3.IsWhole) (arg4 : Memref sig .tc .vmem S2x256 .f32) (harg4 : arg4.IsWhole)
    (hc0 : ¬first0 i) (hc1 : sumPass0 i) (hc2 : ¬devPass0 i) (hc3 : ¬last0 i)
    (x : Vec F S512x256 .f32) (o a : Vec F S2x256 .f32) (E : Set ℕ) (K : PUnit → sProp 𝕄) :
    iprop(owns (c : Thread nD τ) arg2 fullShare x ∗ owns (c : Thread nD τ) arg3 fullShare o ∗ owns (c : Thread nD τ) arg4 fullShare a
        ∗ (iprop(owns (c : Thread nD τ) arg2 fullShare x ∗ owns (c : Thread nD τ) arg3 fullShare o ∗ owns (c : Thread nD τ) arg4 fullShare (sumStep x a)) -∗ K ⟨⟩))
      ⊢ wp frame (wpE (defs₀ (F := F)) Variants.none c none) E (cc0__stats_body i arg2 harg2 arg3 harg3 arg4 harg4) K := by
  simp only [cc0__stats_body_eq_skeleton]; unfold cc0__stats_body_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; swap; · iexact H1
    ipureintro
    exact harg3.read_unread _
  iexists _; isplitr; swap; · iexact HS0
  ipureintro
  sl_unfold_run_names
  simp only [read_cons_put, readAt_win, readCov_win, View.writes_nil, harg2.read_unread, harg4.read_unread, window_full (s := S512x256), window_full (s := S2x256), put_full (s := S2x256) _ _ inb_S2x256_S2x256_0_0]
  rfl

set_option maxHeartbeats 1000000 in
/-- A point of the second pass, not the last. -/
theorem body0_dev (c : Dev nD) (i : grid0.Coords) (arg2 : Memref sig .tc .vmem S512x256 .f32) (harg2 : arg2.IsWhole) (arg3 : Memref sig .tc .vmem S2x256 .f32) (harg3 : arg3.IsWhole) (arg4 : Memref sig .tc .vmem S2x256 .f32) (harg4 : arg4.IsWhole)
    (hc0 : ¬first0 i) (hc1 : ¬sumPass0 i) (hc2 : devPass0 i) (hc3 : ¬last0 i)
    (x : Vec F S512x256 .f32) (o a : Vec F S2x256 .f32) (E : Set ℕ) (K : PUnit → sProp 𝕄) :
    iprop(owns (c : Thread nD τ) arg2 fullShare x ∗ owns (c : Thread nD τ) arg3 fullShare o ∗ owns (c : Thread nD τ) arg4 fullShare a
        ∗ (iprop(owns (c : Thread nD τ) arg2 fullShare x ∗ owns (c : Thread nD τ) arg3 fullShare o ∗ owns (c : Thread nD τ) arg4 fullShare (devStep x a)) -∗ K ⟨⟩))
      ⊢ wp frame (wpE (defs₀ (F := F)) Variants.none c none) E (cc0__stats_body i arg2 harg2 arg3 harg3 arg4 harg4) K := by
  simp only [cc0__stats_body_eq_skeleton]; unfold cc0__stats_body_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; swap; · iexact H1
    ipureintro
    exact harg3.read_unread _
  iexists _; isplitr; swap; · iexact HS0
  ipureintro
  sl_unfold_run_names
  simp only [read_cons_put, readAt_win, readCov_win, View.writes_nil, harg2.read_unread, harg4.read_unread, window_full (s := S512x256), window_full (s := S2x256), put_full (s := S2x256) _ _ inb_S2x256_S2x256_0_0]
  rfl

set_option maxHeartbeats 1000000 in
/-- The last point: the second pass once more, and the result stored. -/
theorem body0_last (c : Dev nD) (i : grid0.Coords) (arg2 : Memref sig .tc .vmem S512x256 .f32) (harg2 : arg2.IsWhole) (arg3 : Memref sig .tc .vmem S2x256 .f32) (harg3 : arg3.IsWhole) (arg4 : Memref sig .tc .vmem S2x256 .f32) (harg4 : arg4.IsWhole)
    (hc0 : ¬first0 i) (hc1 : ¬sumPass0 i) (hc2 : devPass0 i) (hc3 : last0 i)
    (x : Vec F S512x256 .f32) (o a : Vec F S2x256 .f32) (E : Set ℕ) (K : PUnit → sProp 𝕄) :
    iprop(owns (c : Thread nD τ) arg2 fullShare x ∗ owns (c : Thread nD τ) arg3 fullShare o ∗ owns (c : Thread nD τ) arg4 fullShare a
        ∗ (iprop(owns (c : Thread nD τ) arg2 fullShare x ∗ owns (c : Thread nD τ) arg3 fullShare (k0_pay4 (devStep x a)) ∗ owns (c : Thread nD τ) arg4 fullShare (devStep x a)) -∗ K ⟨⟩))
      ⊢ wp frame (wpE (defs₀ (F := F)) Variants.none c none) E (cc0__stats_body i arg2 harg2 arg3 harg3 arg4 harg4) K := by
  simp only [cc0__stats_body_eq_skeleton]; unfold cc0__stats_body_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; swap; · iexact H1
    ipureintro
    sl_unfold_run_names
    simp only [read_cons_put, readAt_win, readCov_win, View.writes_nil, harg2.read_unread, harg4.read_unread, window_full (s := S512x256), window_full (s := S2x256), put_full (s := S2x256) _ _ inb_S2x256_S2x256_0_0]
    rfl
  iexists _; isplitr; swap; · iexact HS0
  ipureintro
  sl_unfold_run_names
  simp only [read_cons_put, readAt_win, readCov_win, View.writes_nil, harg2.read_unread, harg4.read_unread, window_full (s := S512x256), window_full (s := S2x256), put_full (s := S2x256) _ _ inb_S2x256_S2x256_0_0]
  rfl

end Cert.Proof

end
-- ==== Proof.Region0.lean ====
/-
  The statistics kernel's region: the running sums after each grid point as a function of the array of rows alone,
  the region's proof data over them, and the body obligation.
-/
module

public import proofs.«01_k».proof.Proof.Body0
public import Idealize.ShloMosaic.Lib.Pipeline.RegionArraysS
public import Idealize.ShloMosaic.Lib.Pipeline.ValueKit.Geometry

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F] [Named F]

local notation "𝕄" => MT nD τ sig Unit (Elt F) ℕ (UR sig nD τ) ℕ

/-- The rows a grid point works on lie in the array. -/
theorem inb_rows0 (n : ℕ) : ∀ a, (![512 * (n % 32), 0] : Fin 2 → ℕ) a + S512x256.size a ≤ S16384x256.size a := fun a => by
  match a with
  | ⟨0, _⟩ => show 512 * (n % 32) + 512 ≤ 16384; omega
  | ⟨1, _⟩ => show 0 + 256 ≤ 256; omega

/-- The 512 rows from row `512 (n mod 32)` of the array of rows: what grid point `n` works on. -/
def rows0 (X : Vec F S16384x256 .f32) (n : ℕ) : Vec F S512x256 .f32 := window X ![512 * (n % 32), 0] S512x256.size (inb_rows0 n)

/-- The running sums after the first `n` grid points. -/
def sums0 (X : Vec F S16384x256 .f32) : ℕ → Vec F S2x256 .f32
  | 0 => k0_pay1 (F := F)
  | n + 1 => if n < 32 then sumStep (rows0 X n) (sums0 X n) else devStep (rows0 X n) (sums0 X n)

/-- Point `n` is in pass `n / 32`, step `n % 32` of it. -/
theorem coords0 (t : Fin grid0.N) : (grid0.coords t 0).val = t.val / 32 ∧ (grid0.coords t 1).val = t.val % 32 := by
  revert t; decide +kernel

/-- The first step is step 0. -/
theorem hfirst0 : ∀ t : Fin cfg0.N, first0 (grid0.coords t) ↔ t.val = 0 :=
  (by decide +kernel : ∀ t : Fin grid0.N, first0 (grid0.coords t) ↔ t.val = 0)
/-- The pass of the sums is the first 32 steps. -/
theorem hsum0 : ∀ t : Fin cfg0.N, sumPass0 (grid0.coords t) ↔ t.val < 32 :=
  (by decide +kernel : ∀ t : Fin grid0.N, sumPass0 (grid0.coords t) ↔ t.val < 32)
/-- The pass of the deviations is the steps from 32 on. -/
theorem hdev0 : ∀ t : Fin cfg0.N, devPass0 (grid0.coords t) ↔ 32 ≤ t.val :=
  (by decide +kernel : ∀ t : Fin grid0.N, devPass0 (grid0.coords t) ↔ 32 ≤ t.val)
/-- The last step is step 63. -/
theorem hlast0 : ∀ t : Fin cfg0.N, last0 (grid0.coords t) ↔ t.val = 63 :=
  (by decide +kernel : ∀ t : Fin grid0.N, last0 (grid0.coords t) ↔ t.val = 63)
/-- The rows are read at every step. -/
theorem live0_0 : ∀ t : Fin cfg0.N, cfg0.idle 0 (grid0.coords t) = false := fun _ => rfl
/-- The statistics are not written before the last step. -/
theorem idle0_1 : ∀ t : Fin cfg0.N, t.val ≠ 63 → cfg0.idle 1 (grid0.coords t) = true :=
  (by decide +kernel : ∀ t : Fin grid0.N, t.val ≠ 63 → cfg0.idle 1 (grid0.coords t) = true)
/-- The statistics are written at the last step. -/
theorem live0_1 : ∀ t : Fin cfg0.N, t.val = 63 → cfg0.idle 1 (grid0.coords t) = false :=
  (by decide +kernel : ∀ t : Fin grid0.N, t.val = 63 → cfg0.idle 1 (grid0.coords t) = false)

variable (V : Dev nD → Valuation τ sig (Elt F))

/-- Window `w`'s block at point `t` of the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' array as the region finds it. -/
abbrev X0 (c : Dev nD) : Vec F S16384x256 .f32 := V c main_arg0

/-- The invariant before point `n`: the sums' buffer at the sums of the points before (at anything before the first),
    beside the other buffers of the launch. -/
def Phi0 (c : Dev nD) (n : ℕ) : sProp 𝕄 :=
  iprop((∃ a, ⌜n ≠ 0 → a = sums0 (X0 V c) n⌝ ∗ owns (c : Thread nD τ) (Memref.whole cc0_scratch0) fullShare a)
    ∗ Pipeline.scopedRestBut (Ix := Unit) (Name := ℕ) (U := UR sig nD τ) (Lvl := ℕ) (Val := Elt F) spec0 c [cc0_scratch0])

/-- The proof data of the region entered at `V`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => k0_pay4 (sums0 (X0 V c) 64)
  Φ t := Phi0 V c t.val
  q _ := fullShare
  owed _ := 0

/-- Window 0's block at point `t` is block `t mod 32`. -/
theorem index0_0 : ∀ t : Fin cfg0.N, win0_0.index t = ![t.val % 32, 0] :=
  (by decide +kernel : ∀ t : Fin grid0.N, win0_0.index t = ![t.val % 32, 0])

/-- The block of window 0 is the rows of the point. -/
theorem blk0_rows (c : Dev nD) (t : Fin cfg0.N) : blk0 V c 0 t = rows0 (X0 V c) t.val := by
  funext y
  refine congrArg (X0 V c) (funext fun a => Fin.ext ?_)
  match a with
  | ⟨0, _⟩ =>
    show (((cfg0.win 0).blk t).view.emb y 0 : ℕ) = 512 * (t.val % 32) + 1 * (y 0).val
    blk_simp [index0_0]
    show t.val % 32 * 512 + (y 0).val = _
    omega
  | ⟨1, _⟩ =>
    show (((cfg0.win 0).blk t).view.emb y 1 : ℕ) = 0 + 1 * (y 1).val
    blk_simp [index0_0]

/-- A step finds its block of rows. -/
theorem before0 (c : Dev nD) (t : Fin cfg0.N) (d) : (dat0 V c).before 0 t d = blk0 V c 0 t :=
  ((dat0 V c).before_in_eq_fetched 0 rfl (fun _ => rfl) (fun _ _ _ => rfl) (fun _ => rfl) t d).trans rfl

/-- The output window at the last point is left at the statistics, -/
theorem leaves0_last (c : Dev nD) (t : Fin cfg0.N) (X) (h63 : t.val = 63) (h : X = k0_pay4 (sums0 (X0 V c) 64)) :
    owns (c : Thread nD τ) (win0_1.stage (cfg0.slots t 1)) fullShare X ⊢ (dat0 V c).leavesExact 1 t := by
  rw [show (dat0 V c).leavesExact 1 t = owns (c : Thread nD τ) (win0_1.stage (cfg0.slots t 1)) fullShare ((dat0 V c).after 1 t) from by
    unfold Dat.leavesExact; rw [live0_1 t h63], h]
  exact .rfl

/-- elsewhere as it was found. -/
theorem leaves0_idle (c : Dev nD) (t : Fin cfg0.N) (d) (h63 : t.val ≠ 63) :
    owns (c : Thread nD τ) (win0_1.stage (cfg0.slots t 1)) fullShare ((dat0 V c).before 1 t d) ⊢ (dat0 V c).leavesExact 1 t := by
  rw [Dat.leavesExact_idle (dat0 V c) 1 t (idle0_1 t h63) (by
    cases h' : (cfg0.win 1).flush t
    · rfl
    · have := (flush0_1 t).mp h'; have hN : t.val < 64 := t.isLt; omega)]
  iintro H; iexists d; iexact H

/-- The invariant written out. -/
theorem Phi0_eq (c : Dev nD) (n : ℕ) : Phi0 V c n
    = iprop((∃ a, ⌜n ≠ 0 → a = sums0 (X0 V c) n⌝ ∗ owns (c : Thread nD τ) (Memref.whole cc0_scratch0) fullShare a)
    ∗ Pipeline.scopedRestBut (Ix := Unit) (Name := ℕ) (U := UR sig nD τ) (Lvl := ℕ) (Val := Elt F) spec0 c [cc0_scratch0]) := rfl

/-- Taken from a point's sums, the next invariant. -/
theorem phi0_of (c : Dev nD) (n : ℕ) (a) (h : a = sums0 (X0 V c) n) :
    iprop(owns (c : Thread nD τ) (Memref.whole cc0_scratch0) fullShare a
      ∗ Pipeline.scopedRestBut (Ix := Unit) (Name := ℕ) (U := UR sig nD τ) (Lvl := ℕ) (Val := Elt F) spec0 c [cc0_scratch0]) ⊢ Phi0 V c n := by
  unfold Phi0
  iintro ⟨H, Hr⟩
  isplitl [H]
  · iexists _; isplitr
    · ipureintro; exact fun _ => h
    · iexact H
  iexact Hr

/-- One step of the sums. -/
theorem sums0_succ (X : Vec F S16384x256 .f32) (n : ℕ) :
    sums0 X (n + 1) = if n < 32 then sumStep (rows0 X n) (sums0 X n) else devStep (rows0 X n) (sums0 X n) := rfl

/-- The body at a grid point takes the invariant before it to the one after it. -/
theorem body_point0 (c : Dev nD) (t : Fin cfg0.N) :
    iprop(Phi0 V c t.val ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d)))
    ⊢ wp frame (wpE (defs₀ (F := F)) Variants.none c none) Set.univ (bodyAt0 t) (fun _ => iprop(Phi0 V c (t.val + 1) ∗ (dat0 V c).owesAt () t.castSucc
      ∗ owns (c : Thread nD τ) (win0_0.stage (cfg0.slots t 0)) fullShare (blk0 V c 0 t) ∗ (dat0 V c).leavesExact 1 t)) := by
  have hN : t.val < 64 := t.isLt
  unfold bodyAt0
  simp only [before0, blk0_rows]
  rw [Phi0_eq V c t.val]
  iintro ⟨HΦ, Ho, ⟨%d0, H0⟩, ⟨%d1, H1⟩⟩
  icases HΦ with ⟨⟨%a, %ha, HS⟩, Hr⟩
  rcases Nat.lt_or_ge t.val 32 with h32 | h32
  · by_cases hz : t.val = 0
    · iapply (body0_first c (grid0.coords t) _ _ _ _ _ _ ((hfirst0 t).mpr hz) ((hsum0 t).mpr h32) (fun h => absurd ((hdev0 t).mp h) (by omega)) (fun h => absurd ((hlast0 t).mp h) (by omega)) _ _ _ Set.univ _)
      isplitl [H0]; · iexact H0
      isplitl [H1]; · iexact H1
      isplitl [HS]; · iexact HS
      iintro ⟨H0, H1, HS⟩
      isplitl [HS Hr]
      · iapply (phi0_of V c (t.val + 1) (sumStep (rows0 (X0 V c) t.val) k0_pay1) (by rw [sums0_succ, if_pos h32, hz]; rfl))
        isplitl [HS]; · iexact HS
        iexact Hr
      isplitl [Ho]; · iexact Ho
      isplitl [H0]; · iexact H0
      iapply (leaves0_idle V c t _ (by omega)); iexact H1
    · obtain rfl := ha hz
      iapply (body0_sum c (grid0.coords t) _ _ _ _ _ _ (fun h => hz ((hfirst0 t).mp h)) ((hsum0 t).mpr h32) (fun h => absurd ((hdev0 t).mp h) (by omega)) (fun h => absurd ((hlast0 t).mp h) (by omega)) _ _ _ Set.univ _)
      isplitl [H0]; · iexact H0
      isplitl [H1]; · iexact H1
      isplitl [HS]; · iexact HS
      iintro ⟨H0, H1, HS⟩
      isplitl [HS Hr]
      · iapply (phi0_of V c (t.val + 1) _ (by rw [sums0_succ, if_pos h32]))
        isplitl [HS]; · iexact HS
        iexact Hr
      isplitl [Ho]; · iexact Ho
      isplitl [H0]; · iexact H0
      iapply (leaves0_idle V c t _ (by omega)); iexact H1
  · obtain rfl := ha (by omega)
    by_cases h63 : t.val = 63
    · iapply (body0_last c (grid0.coords t) _ _ _ _ _ _ (fun h => absurd ((hfirst0 t).mp h) (by omega)) (fun h => absurd ((hsum0 t).mp h) (by omega)) ((hdev0 t).mpr h32) ((hlast0 t).mpr h63) _ _ _ Set.univ _)
      isplitl [H0]; · iexact H0
      isplitl [H1]; · iexact H1
      isplitl [HS]; · iexact HS
      iintro ⟨H0, H1, HS⟩
      isplitl [HS Hr]
      · iapply (phi0_of V c (t.val + 1) _ (by rw [sums0_succ, if_neg (by omega)]))
        isplitl [HS]; · iexact HS
        iexact Hr
      isplitl [Ho]; · iexact Ho
      isplitl [H0]; · iexact H0
      iapply (leaves0_last V c t (k0_pay4 (devStep (rows0 (X0 V c) t.val) (sums0 (X0 V c) t.val))) h63 (by rw [show (64 : ℕ) = 63 + 1 from rfl, sums0_succ, if_neg (by omega), h63])); iexact H1
    · iapply (body0_dev c (grid0.coords t) _ _ _ _ _ _ (fun h => absurd ((hfirst0 t).mp h) (by omega)) (fun h => absurd ((hsum0 t).mp h) (by omega)) ((hdev0 t).mpr h32) (fun h => h63 ((hlast0 t).mp h)) _ _ _ Set.univ _)
      isplitl [H0]; · iexact H0
      isplitl [H1]; · iexact H1
      isplitl [HS]; · iexact HS
      iintro ⟨H0, H1, HS⟩
      isplitl [HS Hr]
      · iapply (phi0_of V c (t.val + 1) _ (by rw [sums0_succ, if_neg (by omega)]))
        isplitl [HS]; · iexact HS
        iexact Hr
      isplitl [Ho]; · iexact Ho
      isplitl [H0]; · iexact H0
      iapply (leaves0_idle V c t _ h63); iexact H1

/-- The launch's body at a point, its arguments written out. -/
theorem defs₀_row0 (t : Fin cfg0.N) : defs₀ (F := F) .tc cfg0.body (cfg0.bodyArgs t (cfg0.slots t)) = bodyAt0 t := by
  unfold defs₀; rw [Defs.onTc_tc]

/-- The body obligation of the statistics region. -/
theorem body_obligation0 (c : Dev nD) : BodyObligation (dat0 V c) (defs₀ (F := F)) Variants.none () Set.univ := fun t => by
  rw [bigSep_W0, bigSep_W0, defs₀_row0]
  exact triple_restated (body_point0 V c t) rfl .rfl fun _ => .rfl

/-- Entered with the launch's buffers at anything, -/
theorem in0 (c : Dev nD) : iprop(Pipeline.scopedRest (Ix := Unit) (Name := ℕ) (U := UR sig nD τ) (Lvl := ℕ) (Val := Elt F) spec0 c ∗ emp) ⊢ (dat0 V c).Φ 0 := by
  show _ ⊢ Phi0 V c 0
  unfold Phi0
  rw [scopedRest0_split]
  iintro ⟨⟨⟨%f, H⟩, Hr⟩, _⟩
  isplitl [H]
  · iexists f; isplitr
    · ipureintro; exact fun h => absurd rfl h
    · rw [owns_whole_eq]; iexists f; isplitr
      · ipureintro; rfl
      · iexact H
  iexact Hr

/-- left with them at anything. -/
theorem out0 (c : Dev nD) : (dat0 V c).Φ (Fin.last cfg0.N) ⊢ iprop(Pipeline.scopedRest (Ix := Unit) (Name := ℕ) (U := UR sig nD τ) (Lvl := ℕ) (Val := Elt F) spec0 c ∗ emp) := by
  show Phi0 V c cfg0.N ⊢ _
  unfold Phi0
  rw [scopedRest0_split]
  simp only [owns_whole_eq]
  iintro ⟨⟨%a, %ha, ⟨%f, %hf, H⟩⟩, Hr⟩
  isplitl [H Hr]
  · isplitl [H]
    · iexists f; iexact H
    · iexact Hr
  · iempintro

/-- The region leaves the statistics in its output array. -/
theorem arrAt0_1 (c : Dev nD) : (dat0 V c).arrAt 1 cfg0.N = k0_pay4 (sums0 (X0 V c) 64) :=
  (dat0 V c).arrAt_eq_of_after_last 1 (⟨63, by decide⟩ : Fin cfg0.N) (by decide +kernel) _ fun j => by
    refine congrArg (k0_pay4 (sums0 (X0 V c) 64)) (funext fun a => Fin.ext ?_)
    match a with
    | ⟨0, _⟩ => rfl
    | ⟨1, _⟩ => rfl

end Cert.Proof

end
-- ==== Proof.Body1.lean ====
/-
  The nearest-code kernel's body: the normalised rows, each row's nearest code and how many rows chose each code,
  from what it finds.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Base
public import Idealize.ShloMosaic.Lib.Pipeline.Kit
public import Idealize.ShloMosaic.Lib.Tactic
public import Idealize.ShloMosaic.Lib.Pipeline.RegionArraysS
public import Idealize.ShloMosaic.Lib.Pipeline.ValueKit.Geometry

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F] [Named F]

local notation "𝕄" => MT nD τ sig Unit (Elt F) ℕ (UR sig nD τ) ℕ

/-- The distances of 64 codes to the block's rows, the codes' rows of the products and of the squared norms starting at `o`. -/
def subDist (x2 : Vec F S1x256 .f32) (dot : Vec F S512x256 .f32) (E : Vec F S512x1 .f32) (o : ℕ) (h1 : S512x1.Slices ![o, 0] S64x1)
    (h2 : S512x256.Slices ![o, 0] S64x256) : Vec F S64x256 .f32 :=
  subf (addf (broadcastTo S64x256 x2 broadcasts_S1x256_S64x256) (broadcastTo S64x256 (extractStridedSlice S64x1 ![o, 0] E h1) broadcasts_S64x1_S64x256))
    (mulf (broadcast S64x256 (Scalar.ofBits .f32 0x40000000#32)) (extractStridedSlice S64x256 ![o, 0] dot h2))

/-- The least of them for each row. -/
def subMin (D : Vec F S64x256 .f32) : Vec F S1x256 .f32 :=
  shapeCast S1x256 (multiReduction .minimumf [0] S256 D 0x7F800000#32 reduces_S64x256_S256 (.inl rfl) rfl) shapeCasts_S256_S1x256

/-- The first code that has it, the codes starting at `w`. -/
def subIdx (D : Vec F S64x256 .f32) (w : BitVec 32) : Vec F S1x256 .i32 :=
  shapeCast S1x256 (multiReductionI .minsi [0] S256 (select (cmpf .oeq D (broadcastTo S64x256 (subMin D) broadcasts_S1x256_S64x256))
    (addi (iota .tc S64x256 32 [0] iota_S64x256_d0_w32) (broadcast S64x256 w)) (broadcast S64x256 8192#32))
    2147483647#32 reduces_S64x256_S256 rfl) shapeCasts_S256_S1x256

/-- The running minimum and its code after 64 more codes. -/
def subStep (x2 : Vec F S1x256 .f32) (dot : Vec F S512x256 .f32) (E : Vec F S512x1 .f32) (w : BitVec 32) (o : ℕ) (h1 : S512x1.Slices ![o, 0] S64x1)
    (h2 : S512x256.Slices ![o, 0] S64x256) (a : FVec F S1x256 .f32 × IVec S1x256 32) : FVec F S1x256 .f32 × IVec S1x256 32 :=
  (select (cmpf .olt (subMin (subDist x2 dot E o h1 h2)) a.1) (subMin (subDist x2 dot E o h1 h2)) a.1,
   select (cmpf .olt (subMin (subDist x2 dot E o h1 h2)) a.1) (subIdx (subDist x2 dot E o h1 h2) w) a.2)

/-- The running minimum and its code after 512 more codes, the codes starting at `b`. -/
def codeTrip (x2 : Vec F S1x256 .f32) (dot : Vec F S512x256 .f32) (E : Vec F S512x1 .f32) (b : BitVec 32) (a : FVec F S1x256 .f32 × IVec S1x256 32) :
    FVec F S1x256 .f32 × IVec S1x256 32 :=
  subStep x2 dot E (Scalar.addi b 448#32) 448 slices_S512x1_o448_0_S64x1 slices_S512x256_o448_0_S64x256
    (subStep x2 dot E (Scalar.addi b 384#32) 384 slices_S512x1_o384_0_S64x1 slices_S512x256_o384_0_S64x256
    (subStep x2 dot E (Scalar.addi b 320#32) 320 slices_S512x1_o320_0_S64x1 slices_S512x256_o320_0_S64x256
    (subStep x2 dot E (Scalar.addi b 256#32) 256 slices_S512x1_o256_0_S64x1 slices_S512x256_o256_0_S64x256
    (subStep x2 dot E (Scalar.addi b 192#32) 192 slices_S512x1_o192_0_S64x1 slices_S512x256_o192_0_S64x256
    (subStep x2 dot E (Scalar.addi b 128#32) 128 slices_S512x1_o128_0_S64x1 slices_S512x256_o128_0_S64x256
    (subStep x2 dot E (Scalar.addi b 64#32) 64 slices_S512x1_o64_0_S64x1 slices_S512x256_o64_0_S64x256
    (subStep x2 dot E (Scalar.addi b 0#32) 0 slices_S512x1_o0_0_S64x1 slices_S512x256_o0_0_S64x256 a)))))))

/-- One trip of the search. -/
def codeStep (xn : Vec F S256x256 .f32) (x2 : Vec F S1x256 .f32) (e : Vec F S8192x256 .f32) (E : Vec F S8192x1 .f32) (k : ℕ)
    (a : FVec F S1x256 .f32 × IVec S1x256 32) : FVec F S1x256 .f32 × IVec S1x256 32 :=
  if h : k < k1_t1_loop.trips then
    codeTrip x2 (k1_pay39 xn (window e (k1_off1 ⟨k, h⟩) S512x256.size (k1_off1_inb ⟨k, h⟩))) (window E (k1_off2 ⟨k, h⟩) S512x1.size (k1_off2_inb ⟨k, h⟩))
      (Scalar.muli (Scf.iv 0#32 1#32 k) 512#32) a
  else a

/-- The running minimum and its code after the first `k` trips. -/
def codeTrips (xn : Vec F S256x256 .f32) (x2 : Vec F S1x256 .f32) (e : Vec F S8192x256 .f32) (E : Vec F S8192x1 .f32) :
    ℕ → FVec F S1x256 .f32 × IVec S1x256 32
  | 0 => (k1_pay122, k1_pay123)
  | k + 1 => codeStep xn x2 e E k (codeTrips xn x2 e E k)

/-- Before the first trip: the start values. -/
theorem codeTrips_zero (xn : Vec F S256x256 .f32) (x2 : Vec F S1x256 .f32) (e : Vec F S8192x256 .f32) (E : Vec F S8192x1 .f32) :
    codeTrips xn x2 e E 0 = (k1_pay122, k1_pay123) := rfl

set_option maxHeartbeats 2000000 in
/-- One trip's region. -/
theorem code_trip (c : Dev nD) (i : grid1.Coords) (arg1 : Memref sig .tc .vmem S2x256 .f32) (harg1 : arg1.IsWhole) (arg2 : Memref sig .tc .vmem S256x256 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1x1x256 .i32) (harg5 : arg5.IsWhole) (arg6 : Memref sig .tc .vmem S8192x1 .f32) (harg6 : arg6.IsWhole) (arg7 : Memref sig .tc .vmem S8192x1 .f32) (harg7 : arg7.IsWhole)
    (v3 v5 : Vec F S1x256 .f32) (v10 : Vec F S256x256 .f32) (k : Fin k1_t1_loop.trips) (G3 : BufTy.Contents (Elt F) arg3.view.ty) (G7 : BufTy.Contents (Elt F) arg7.view.ty)
    (a : FVec F S1x256 .f32 × IVec S1x256 32) (E : Set ℕ) :
    (iprop((arg3.view.loc (c : Thread nD τ) ↦[arg3.view.set]{fullShare} G3) ∗ (arg7.view.loc (c : Thread nD τ) ↦[arg7.view.set]{fullShare} G7)) : sProp 𝕄)
      ⊢ wp frame (wpE (defs₀ (F := F)) Variants.none c none) E (k1_t1_body i arg1 harg1 arg2 harg2 arg3 harg3 arg4 harg4 arg5 harg5 arg6 harg6 arg7 harg7 v3 v5 v10 k a)
        (fun b => iprop((arg3.view.loc (c : Thread nD τ) ↦[arg3.view.set]{fullShare} G3) ∗ (arg7.view.loc (c : Thread nD τ) ↦[arg7.view.set]{fullShare} G7)
          ∗ ⌜b = codeStep (k1_pay120 v3 v5 v10) (k1_pay121 v3 v5 v10) (arg3.view.read (Elt F) G3) (arg7.view.read (Elt F) G7) k a⌝)) := by
  have hk : k.val < 16 := Nat.lt_of_lt_of_le k.isLt k1_t1_abs.2.1
  obtain ⟨m, j⟩ := a
  unfold k1_t1_body
  iintro ⟨H3, H7⟩
  sl_exec
  sl_step
  isplitl [H3]; · iexact H3
  isplitl [H7]; · iexact H7
  ipureintro
  sl_unfold_run_names
  rw [readAt_win, readAt_win]
  unfold codeStep
  rw [dif_pos k.isLt]
  rfl

set_option warn.classDefReducibility false in
/-- The search's loop by its invariant: what is carried is the running minimum and its code after the trips so far. -/
@[sl_loop] def codeLoop (c : Dev nD) (E : Set ℕ) (i : grid1.Coords) (arg1 : Memref sig .tc .vmem S2x256 .f32) (harg1 : arg1.IsWhole) (arg2 : Memref sig .tc .vmem S256x256 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1x1x256 .i32) (harg5 : arg5.IsWhole) (arg6 : Memref sig .tc .vmem S8192x1 .f32) (harg6 : arg6.IsWhole) (arg7 : Memref sig .tc .vmem S8192x1 .f32) (harg7 : arg7.IsWhole)
    (v3 v5 : Vec F S1x256 .f32) (v10 : Vec F S256x256 .f32) (G3 : BufTy.Contents (Elt F) arg3.view.ty) (G7 : BufTy.Contents (Elt F) arg7.view.ty) :
    LoopInv (M := 𝕄) frame (wpE (defs₀ (F := F)) Variants.none (c : Thread nD τ) none) E
      k1_t1_loop.lb k1_t1_loop.ub k1_t1_loop.st k1_t1_ok (k1_pay122 (F := F), k1_pay123) (k1_t1_body (F := F) i arg1 harg1 arg2 harg2 arg3 harg3 arg4 harg4 arg5 harg5 arg6 harg6 arg7 harg7 v3 v5 v10) where
  inv k a := iprop((arg3.view.loc (c : Thread nD τ) ↦[arg3.view.set]{fullShare} G3) ∗ (arg7.view.loc (c : Thread nD τ) ↦[arg7.view.set]{fullShare} G7)
    ∗ ⌜a = codeTrips (k1_pay120 v3 v5 v10) (k1_pay121 v3 v5 v10) (arg3.view.read (Elt F) G3) (arg7.view.read (Elt F) G7) k⌝)
  step k acc := by
    iintro ⟨H3, H7, %h⟩
    rw [h]
    iapply (code_trip c i arg1 harg1 arg2 harg2 arg3 harg3 arg4 harg4 arg5 harg5 arg6 harg6 arg7 harg7 v3 v5 v10 k G3 G7)
    isplitl [H3]; · iexact H3
    iexact H7

/-- How many of the block's rows chose each of 64 codes, the codes starting at `w`. -/
def cntBlock (v : Vec F S1x256 .i32) (w : BitVec 32) : Vec F S64x1 .f32 :=
  shapeCast S64x1 (multiReduction .add [1] S64 (sitofp .f32 (extui 32 (cmpi .eq (addi (iota .tc S64x256 32 [0] iota_S64x256_d0_w32) (broadcast S64x256 w))
    (broadcastTo S64x256 v broadcasts_S1x256_S64x256)) natLt_1_32)) 0x00000000#32 reduces_S64x256_S64 (.inl rfl) rfl) shapeCasts_S64_S64x1

/-- Sub-block `c` of trip `k`: its counts with the block's added. -/
def cntPiece (v : Vec F S1x256 .i32) (k : Fin k1_t2_loop.trips) (c : Fin 8) (C : Vec F S8192x1 .f32) : Vec F S64x1 .f32 :=
  addf (window C (k1_off3 k (BitVec.ofNat 32 (64 * c.val))) S64x1.size (k1_off3_inb k c))
    (cntBlock v (Scalar.addi (Scalar.muli (Scf.iv 0#32 1#32 k) 512#32) (BitVec.ofNat 32 (64 * c.val))))

/-- One trip on the counts: eight sub-blocks. -/
def cntTrip (v : Vec F S1x256 .i32) (k : Fin k1_t2_loop.trips) (C : Vec F S8192x1 .f32) : Vec F S8192x1 .f32 :=
  put (put (put (put (put (put (put (put (C) (k1_off3 k 0#32) S64x1.size (cntPiece v k 0 C)) (k1_off3 k 64#32) S64x1.size (cntPiece v k 1 C)) (k1_off3 k 128#32) S64x1.size (cntPiece v k 2 C)) (k1_off3 k 192#32) S64x1.size (cntPiece v k 3 C)) (k1_off3 k 256#32) S64x1.size (cntPiece v k 4 C)) (k1_off3 k 320#32) S64x1.size (cntPiece v k 5 C)) (k1_off3 k 384#32) S64x1.size (cntPiece v k 6 C)) (k1_off3 k 448#32) S64x1.size (cntPiece v k 7 C)

/-- The counts after the first `k` trips. -/
def cntTrips (v : Vec F S1x256 .i32) (C : Vec F S8192x1 .f32) : ℕ → Vec F S8192x1 .f32
  | 0 => C
  | k + 1 => if h : k < k1_t2_loop.trips then cntTrip v ⟨k, h⟩ (cntTrips v C k) else cntTrips v C k

/-- Equal blocks put over equals. -/
theorem put_congr {X X' : Vec F S8192x1 .f32} {w w' : Vec F S64x1 .f32} {off : Fin 2 → ℕ} (h : X = X') (h' : w = w') :
    put X off S64x1.size w = put X' off S64x1.size w' := by rw [h, h']

/-- What is loaded of the counts, added to. -/
theorem cnt_load {arg6 : Memref sig .tc .vmem S8192x1 .f32} (harg6 : arg6.IsWhole) (C : Vec F S8192x1 .f32) (off : Fin 2 → ℕ)
    (inb : ∀ a, off a + S64x1.size a ≤ S8192x1.size a) (b : Vec F S64x1 .f32) (h) :
    addf (shapeCast S64x1 (arg6.view.readAt (Elt F) (Rect.unit (s := S8192x1) off S64x1.size inb).toLoadRect (harg6.unread C) : Vec F S64x1 .f32) h) b
      = addf (window C off S64x1.size inb) b := by
  rw [readAt_win, harg6.read_unread]
  exact congrArg (fun z => addf z b) (shapeCast_self _ _)

set_option maxHeartbeats 2000000 in
/-- One trip's region. -/
theorem cnt_trip (c : Dev nD) (i : grid1.Coords) (arg1 : Memref sig .tc .vmem S2x256 .f32) (harg1 : arg1.IsWhole) (arg2 : Memref sig .tc .vmem S256x256 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1x1x256 .i32) (harg5 : arg5.IsWhole) (arg6 : Memref sig .tc .vmem S8192x1 .f32) (harg6 : arg6.IsWhole) (arg7 : Memref sig .tc .vmem S8192x1 .f32) (harg7 : arg7.IsWhole)
    (v : Vec F S1x256 .i32) (k : Fin k1_t2_loop.trips) (C : Vec F S8192x1 .f32) (E : Set ℕ) :
    ((arg6.view.loc (c : Thread nD τ) ↦[arg6.view.set]{fullShare} harg6.unread C) : sProp 𝕄)
      ⊢ wp frame (wpE (defs₀ (F := F)) Variants.none c none) E (k1_t2_body i arg1 harg1 arg2 harg2 arg3 harg3 arg4 harg4 arg5 harg5 arg6 harg6 arg7 harg7 v 0#32 1#32 k PUnit.unit)
        (fun _ => iprop(∃ f, (arg6.view.loc (c : Thread nD τ) ↦[arg6.view.set]{fullShare} f) ∗ ⌜f = harg6.unread (cntTrip v k C)⌝)) := by
  have hk : k.val < 16 := Nat.lt_of_lt_of_le k.isLt k1_t2_abs.2.1
  unfold k1_t2_body
  iintro H6
  sl_exec
  sl_step
  iexists _; isplitl [H6]; · iexact H6
  ipureintro
  refine harg6.eq_unread ?_
  sl_unfold_run_names
  unfold cntTrip
  rw [read_cons_put]
  refine put_congr ?_ ?_
  case refine_2 => exact cnt_load harg6 C (k1_off3 k 448#32) (k1_off3_inb k 7) (cntBlock v (Scalar.addi (Scalar.muli (Scf.iv 0#32 1#32 k) 512#32) 448#32)) shapeCasts_S64x1_S64x1
  rw [read_cons_put]
  refine put_congr ?_ ?_
  case refine_2 => exact cnt_load harg6 C (k1_off3 k 384#32) (k1_off3_inb k 6) (cntBlock v (Scalar.addi (Scalar.muli (Scf.iv 0#32 1#32 k) 512#32) 384#32)) shapeCasts_S64x1_S64x1
  rw [read_cons_put]
  refine put_congr ?_ ?_
  case refine_2 => exact cnt_load harg6 C (k1_off3 k 320#32) (k1_off3_inb k 5) (cntBlock v (Scalar.addi (Scalar.muli (Scf.iv 0#32 1#32 k) 512#32) 320#32)) shapeCasts_S64x1_S64x1
  rw [read_cons_put]
  refine put_congr ?_ ?_
  case refine_2 => exact cnt_load harg6 C (k1_off3 k 256#32) (k1_off3_inb k 4) (cntBlock v (Scalar.addi (Scalar.muli (Scf.iv 0#32 1#32 k) 512#32) 256#32)) shapeCasts_S64x1_S64x1
  rw [read_cons_put]
  refine put_congr ?_ ?_
  case refine_2 => exact cnt_load harg6 C (k1_off3 k 192#32) (k1_off3_inb k 3) (cntBlock v (Scalar.addi (Scalar.muli (Scf.iv 0#32 1#32 k) 512#32) 192#32)) shapeCasts_S64x1_S64x1
  rw [read_cons_put]
  refine put_congr ?_ ?_
  case refine_2 => exact cnt_load harg6 C (k1_off3 k 128#32) (k1_off3_inb k 2) (cntBlock v (Scalar.addi (Scalar.muli (Scf.iv 0#32 1#32 k) 512#32) 128#32)) shapeCasts_S64x1_S64x1
  rw [read_cons_put]
  refine put_congr ?_ ?_
  case refine_2 => exact cnt_load harg6 C (k1_off3 k 64#32) (k1_off3_inb k 1) (cntBlock v (Scalar.addi (Scalar.muli (Scf.iv 0#32 1#32 k) 512#32) 64#32)) shapeCasts_S64x1_S64x1
  rw [read_cons_put]
  refine put_congr ?_ ?_
  case refine_2 => exact cnt_load harg6 C (k1_off3 k 0#32) (k1_off3_inb k 0) (cntBlock v (Scalar.addi (Scalar.muli (Scf.iv 0#32 1#32 k) 512#32) 0#32)) shapeCasts_S64x1_S64x1
  exact harg6.read_unread C

set_option warn.classDefReducibility false in
/-- The counting loop by its invariant: the counts after the trips so far. -/
@[sl_loop] def cntLoop (c : Dev nD) (E : Set ℕ) (i : grid1.Coords) (arg1 : Memref sig .tc .vmem S2x256 .f32) (harg1 : arg1.IsWhole) (arg2 : Memref sig .tc .vmem S256x256 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1x1x256 .i32) (harg5 : arg5.IsWhole) (arg6 : Memref sig .tc .vmem S8192x1 .f32) (harg6 : arg6.IsWhole) (arg7 : Memref sig .tc .vmem S8192x1 .f32) (harg7 : arg7.IsWhole)
    (v : Vec F S1x256 .i32) (C : Vec F S8192x1 .f32) :
    LoopInv (M := 𝕄) frame (wpE (defs₀ (F := F)) Variants.none (c : Thread nD τ) none) E
      k1_t2_loop.lb k1_t2_loop.ub k1_t2_loop.st k1_t2_ok () (k1_t2_body (F := F) i arg1 harg1 arg2 harg2 arg3 harg3 arg4 harg4 arg5 harg5 arg6 harg6 arg7 harg7 v 0#32 1#32) where
  inv k _ := iprop(∃ f, (arg6.view.loc (c : Thread nD τ) ↦[arg6.view.set]{fullShare} f) ∗ ⌜arg6.view.read (Elt F) f = cntTrips v C k⌝)
  step k acc := by
    iintro ⟨%f6, H6, %h6⟩
    have e : cntTrips v C (k.val + 1) = cntTrip v k (cntTrips v C k.val) := dif_pos k.isLt
    obtain rfl := harg6.eq_unread h6
    iapply (wp_wand_r frame (wpE (defs₀ (F := F)) Variants.none (c : Thread nD τ) none) E)
    isplitl [H6]
    · iapply (cnt_trip c i arg1 harg1 arg2 harg2 arg3 harg3 arg4 harg4 arg5 harg5 arg6 harg6 arg7 harg7 v k)
      iexact H6
    · iintro %_ ⟨%f, H6, %hf⟩
      iexists f
      isplitl [H6]; · iexact H6
      ipureintro
      rw [hf, e]
      exact harg6.read_unread _

/-- The counts before the first point. -/
def cntZero : Vec F S8192x1 .f32 := fun _ => Scalar.ofBits .f32 0x00000000#32

/-- The squared norms of 256 codes. -/
def normBlock (e : Vec F S256x256 .f32) : Vec F S256x1 .f32 :=
  shapeCast S256x1 (multiReduction .add [1] S256 (mulf e e) 0x00000000#32 reduces_S256x256_S256 (.inl rfl) rfl) shapeCasts_S256_S256x1

/-- A block of 256 codes lies in the codebook. -/
theorem inb_codes (n : ℕ) : ∀ a, (![256 * (n % 32), 0] : Fin 2 → ℕ) a + S256x256.size a ≤ S8192x256.size a := fun a => by
  match a with
  | ⟨0, _⟩ => show 256 * (n % 32) + 256 ≤ 8192; omega
  | ⟨1, _⟩ => show 0 + 256 ≤ 256; omega

/-- The squared norms of all codes. -/
def normsOf (e : Vec F S8192x256 .f32) : Vec F S8192x1 .f32 := fun y =>
  normBlock (window e ![256 * ((y 0).val / 256 % 32), 0] S256x256.size (inb_codes ((y 0).val / 256)))
    (fun a => match a with | ⟨0, _⟩ => ⟨(y 0).val % 256, Nat.mod_lt _ (by decide)⟩ | ⟨1, _⟩ => y 1)

/-- A block of 256 rows put over others that agree with `T` below it, agreeing with `T` itself, leaves what agrees below its end. -/
theorem block_put {T : Vec F S8192x1 .f32} (m n : ℕ) (hm : m = n + 256) (X : Vec F S8192x1 .f32) (w : Vec F S256x1 .f32)
    (hw : ∀ (y : S8192x1.Idx) (h : ∀ a, (![n, 0] : Fin 2 → ℕ) a ≤ (y a).val ∧ (y a).val < (![n, 0] : Fin 2 → ℕ) a + S256x1.size a),
      w (fun a => ⟨(y a).val - (![n, 0] : Fin 2 → ℕ) a, by have := h a; omega⟩) = T y)
    (hX : ∀ y : S8192x1.Idx, (y 0).val < n → X y = T y) :
    ∀ y : S8192x1.Idx, (y 0).val < m → put X ![n, 0] S256x1.size w y = T y := by
  intro y hy
  unfold put
  by_cases h : ∀ a, (![n, 0] : Fin 2 → ℕ) a ≤ (y a).val ∧ (y a).val < (![n, 0] : Fin 2 → ℕ) a + S256x1.size a
  · rw [dif_pos h]; exact hw y h
  · rw [dif_neg h]
    refine hX y ?_
    by_contra hge
    refine h fun a => ?_
    match a with
    | ⟨0, _⟩ => show n ≤ (y 0).val ∧ (y 0).val < n + 256; omega
    | ⟨1, _⟩ => show 0 ≤ (y 1).val ∧ (y 1).val < 0 + 1; exact ⟨Nat.zero_le _, by have : (y 1).val < 1 := (y 1).isLt; omega⟩

/-- A block of norms put over others. -/
theorem norm_put (e : Vec F S8192x256 .f32) (m n : ℕ) (hn : n % 256 = 0 ∧ n < 8192) (hm : m = n + 256)
    (X : Vec F S8192x1 .f32) (inb : ∀ a, (![n, 0] : Fin 2 → ℕ) a + S256x256.size a ≤ S8192x256.size a) (w : Vec F S256x1 .f32) (h)
    (hw : w = shapeCast S256x1 (normBlock (window e ![n, 0] S256x256.size inb)) h)
    (hX : ∀ y : S8192x1.Idx, (y 0).val < n → X y = normsOf e y) :
    ∀ y : S8192x1.Idx, (y 0).val < m → put X ![n, 0] S256x1.size w y = normsOf e y := by
  refine block_put m n hm X w (fun y hy => ?_) hX
  rw [hw, shapeCast_self]
  have h0 : n ≤ (y 0).val ∧ (y 0).val < n + 256 := hy 0
  obtain ⟨c, rfl⟩ : ∃ c, n = 256 * c := ⟨n / 256, by omega⟩
  unfold normsOf
  have hq : (y 0).val / 256 % 32 = c := by omega
  have hwd : window e ![256 * ((y 0).val / 256 % 32), 0] S256x256.size (inb_codes ((y 0).val / 256)) = window e ![256 * c, 0] S256x256.size inb := by
    have : ∀ (q : ℕ) (h : ∀ a, (![256 * q, 0] : Fin 2 → ℕ) a + S256x256.size a ≤ S8192x256.size a), q = c →
        window e ![256 * q, 0] S256x256.size h = window e ![256 * c, 0] S256x256.size inb := fun q h hq => by subst hq; rfl
    exact this _ _ hq
  rw [hwd]
  refine congrArg (normBlock (F := F) (window e ![256 * c, 0] S256x256.size inb)) (funext fun a => Fin.ext ?_)
  match a with
  | ⟨0, _⟩ => show (y 0).val - 256 * c = (y 0).val % 256; omega
  | ⟨1, _⟩ => show (y 1).val - 0 = (y 1).val; omega

/-- The normalised rows of a block. -/
def xnOf (s : Vec F S2x256 .f32) (x : Vec F S256x256 .f32) : Vec F S256x256 .f32 :=
  k1_pay120 (window s ![0, 0] S1x256.size inb_S2x256_S1x256_0_0) (window s ![1, 0] S1x256.size inb_S2x256_S1x256_1_0) x

/-- Their squared norms. -/
def x2Of (s : Vec F S2x256 .f32) (x : Vec F S256x256 .f32) : Vec F S1x256 .f32 :=
  k1_pay121 (window s ![0, 0] S1x256.size inb_S2x256_S1x256_0_0) (window s ![1, 0] S1x256.size inb_S2x256_S1x256_1_0) x

/-- Each row's nearest code. -/
def codesOf (s : Vec F S2x256 .f32) (x : Vec F S256x256 .f32) (e : Vec F S8192x256 .f32) : Vec F S1x256 .i32 :=
  (codeTrips (xnOf s x) (x2Of s x) e (normsOf e) 16).2

/-- The same, as the block that is stored. -/
def idxOf (v : Vec F S1x256 .i32) : Vec F S1x1x256 .i32 := shapeCast S1x1x256 v shapeCasts_S1x256_S1x1x256

/-- Whether a point is the first. -/
abbrev first1 (i : grid1.Coords) : Prop :=
  Scalar.cmpi .ne (Scalar.extui (Scalar.cmpi .eq (BitVec.ofNat 32 (i 0).val) 0#32) : BitVec 32) 0#32 = 1#1

set_option maxHeartbeats 8000000 in
/-- A later point: the counts found, with the block's added. -/
theorem body1_next (c : Dev nD) (i : grid1.Coords) (arg1 : Memref sig .tc .vmem S2x256 .f32) (harg1 : arg1.IsWhole) (arg2 : Memref sig .tc .vmem S256x256 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1x1x256 .i32) (harg5 : arg5.IsWhole) (arg6 : Memref sig .tc .vmem S8192x1 .f32) (harg6 : arg6.IsWhole) (arg7 : Memref sig .tc .vmem S8192x1 .f32) (harg7 : arg7.IsWhole) (hc : ¬first1 i)
    (s : Vec F S2x256 .f32) (x : Vec F S256x256 .f32) (e : Vec F S8192x256 .f32) (o4 : Vec F S256x256 .f32) (o5 : Vec F S1x1x256 .i32) (o6 o7 : Vec F S8192x1 .f32) (h7 : o7 = normsOf e) (E : Set ℕ) (K : PUnit → sProp 𝕄) :
    iprop(owns (c : Thread nD τ) arg1 fullShare s ∗ owns (c : Thread nD τ) arg2 fullShare x ∗ owns (c : Thread nD τ) arg3 fullShare e ∗ owns (c : Thread nD τ) arg4 fullShare o4 ∗ owns (c : Thread nD τ) arg5 fullShare o5 ∗ owns (c : Thread nD τ) arg6 fullShare o6 ∗ owns (c : Thread nD τ) arg7 fullShare o7
        ∗ (iprop(owns (c : Thread nD τ) arg1 fullShare s ∗ owns (c : Thread nD τ) arg2 fullShare x ∗ owns (c : Thread nD τ) arg3 fullShare e ∗ owns (c : Thread nD τ) arg4 fullShare (xnOf s x)
          ∗ owns (c : Thread nD τ) arg5 fullShare (idxOf (codesOf s x e)) ∗ owns (c : Thread nD τ) arg6 fullShare (cntTrips (codesOf s x e) o6 16) ∗ owns (c : Thread nD τ) arg7 fullShare (normsOf e)) -∗ K ⟨⟩))
      ⊢ wp frame (wpE (defs₀ (F := F)) Variants.none c none) E (cc1__argmin_body i arg1 harg1 arg2 harg2 arg3 harg3 arg4 harg4 arg5 harg5 arg6 harg6 arg7 harg7) K := by
  simp only [cc1__argmin_body_eq_skeleton]; unfold cc1__argmin_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    sl_unfold_run_names
    rw [read_cons_put, put_full (s := S256x256) _ _ inb_S256x256_S256x256_0_0]
    simp only [readAt_win, harg1.read_unread, harg2.read_unread, harg3.read_unread, harg7.read_unread, window_full (s := S256x256)]
    rfl
  isplitl [H5]
  · iexists _; isplitr; swap; · iexact H5
    ipureintro
    sl_unfold_run_names
    rw [read_cons_put, put_full (s := S1x1x256) _ _ inb_S1x1x256_S1x1x256_0_0_0]
    simp only [readAt_win, harg1.read_unread, harg2.read_unread, harg3.read_unread, harg7.read_unread, h7, window_full (s := S256x256)]
    rfl
  isplitl [H6]
  · iexists _; isplitr; swap; · iexact H6
    ipureintro
    refine Eq.trans (by assumption) ?_
    refine congrArg₂ (fun v C => cntTrips v C 16) ?_ ?_
    · sl_unfold_run_names
      simp only [readAt_win, harg1.read_unread, harg2.read_unread, harg3.read_unread, harg7.read_unread, h7, window_full (s := S256x256)]
      rfl
    exact harg6.read_unread o6
  iexists _; isplitr; swap; · iexact H7
  ipureintro
  exact (harg7.read_unread o7).trans h7

set_option maxHeartbeats 8000000 in
/-- The first point: from any norms and counts, the codes' norms and the counts from zero. -/
theorem body1_first (c : Dev nD) (i : grid1.Coords) (arg1 : Memref sig .tc .vmem S2x256 .f32) (harg1 : arg1.IsWhole) (arg2 : Memref sig .tc .vmem S256x256 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1x1x256 .i32) (harg5 : arg5.IsWhole) (arg6 : Memref sig .tc .vmem S8192x1 .f32) (harg6 : arg6.IsWhole) (arg7 : Memref sig .tc .vmem S8192x1 .f32) (harg7 : arg7.IsWhole) (hc : first1 i)
    (s : Vec F S2x256 .f32) (x : Vec F S256x256 .f32) (e : Vec F S8192x256 .f32) (o4 : Vec F S256x256 .f32) (o5 : Vec F S1x1x256 .i32) (o6 o7 : Vec F S8192x1 .f32) (E : Set ℕ) (K : PUnit → sProp 𝕄) :
    iprop(owns (c : Thread nD τ) arg1 fullShare s ∗ owns (c : Thread nD τ) arg2 fullShare x ∗ owns (c : Thread nD τ) arg3 fullShare e ∗ owns (c : Thread nD τ) arg4 fullShare o4 ∗ owns (c : Thread nD τ) arg5 fullShare o5 ∗ owns (c : Thread nD τ) arg6 fullShare o6 ∗ owns (c : Thread nD τ) arg7 fullShare o7
        ∗ (iprop(owns (c : Thread nD τ) arg1 fullShare s ∗ owns (c : Thread nD τ) arg2 fullShare x ∗ owns (c : Thread nD τ) arg3 fullShare e ∗ owns (c : Thread nD τ) arg4 fullShare (xnOf s x)
          ∗ owns (c : Thread nD τ) arg5 fullShare (idxOf (codesOf s x e)) ∗ owns (c : Thread nD τ) arg6 fullShare (cntTrips (codesOf s x e) cntZero 16) ∗ owns (c : Thread nD τ) arg7 fullShare (normsOf e)) -∗ K ⟨⟩))
      ⊢ wp frame (wpE (defs₀ (F := F)) Variants.none c none) E (cc1__argmin_body i arg1 harg1 arg2 harg2 arg3 harg3 arg4 harg4 arg5 harg5 arg6 harg6 arg7 harg7) K := by
  simp only [cc1__argmin_body_eq_skeleton]; unfold cc1__argmin_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    sl_unfold_run_names
    rw [read_cons_put, put_full (s := S256x256) _ _ inb_S256x256_S256x256_0_0]
    simp only [readAt_win, harg1.read_unread, harg2.read_unread, harg3.read_unread, window_full (s := S256x256)]
    rfl
  isplitl [H5]
  · iexists _; isplitr; swap; · iexact H5
    ipureintro
    sl_unfold_run_names
    rw [read_cons_put, put_full (s := S1x1x256) _ _ inb_S1x1x256_S1x1x256_0_0_0]
    simp only [readAt_win, harg1.read_unread, harg2.read_unread, harg3.read_unread, window_full (s := S256x256)]
    refine congrArg idxOf (congrArg (fun z => (codeTrips (xnOf s x) (x2Of s x) e z 16).2) ?_)
    funext y
    have hy : (y 0).val < 8192 := (y 0).isLt
    refine (congrFun (read_cons_put arg7.view _ _ _ _) y).trans ?_
    refine norm_put e 8192 7936 (by decide) rfl _ _ _ shapeCasts_S256x1_S256x1 rfl (fun y hy => ?_) y hy
    iterate 31
      rw [read_cons_put]
      refine norm_put e _ _ (by decide) rfl _ _ _ shapeCasts_S256x1_S256x1 rfl (fun y hy => ?_) y hy
    exact absurd hy (Nat.not_lt_zero _)
  isplitl [H6]
  · iexists _; isplitr; swap; · iexact H6
    ipureintro
    refine Eq.trans (by assumption) ?_
    refine congrArg₂ (fun v C => cntTrips v C 16) ?_ ?_
    · sl_unfold_run_names
      simp only [readAt_win, harg1.read_unread, harg2.read_unread, harg3.read_unread, window_full (s := S256x256)]
      refine congrArg (fun z => (codeTrips (xnOf s x) (x2Of s x) e z 16).2) ?_
      funext y
      have hy : (y 0).val < 8192 := (y 0).isLt
      refine (congrFun (read_cons_put arg7.view _ _ _ _) y).trans ?_
      refine norm_put e 8192 7936 (by decide) rfl _ _ _ shapeCasts_S256x1_S256x1 rfl (fun y hy => ?_) y hy
      iterate 31
        rw [read_cons_put]
        refine norm_put e _ _ (by decide) rfl _ _ _ shapeCasts_S256x1_S256x1 rfl (fun y hy => ?_) y hy
      exact absurd hy (Nat.not_lt_zero _)
    sl_unfold_run_names
    funext y
    have hy : (y 0).val < 8192 := (y 0).isLt
    refine (congrFun (read_cons_put arg6.view _ _ _ _) y).trans ?_
    refine block_put (T := cntZero) 8192 7936 rfl _ _ (fun _ _ => rfl) (fun y hy => ?_) y hy
    iterate 31
      rw [read_cons_put]
      refine block_put (T := cntZero) _ _ rfl _ _ (fun _ _ => rfl) (fun y hy => ?_) y hy
    exact absurd hy (Nat.not_lt_zero _)
  iexists _; isplitr; swap; · iexact H7
  ipureintro
  sl_unfold_run_names
  simp only [readAt_win, harg3.read_unread]
  funext y
  have hy : (y 0).val < 8192 := (y 0).isLt
  refine (congrFun (read_cons_put arg7.view _ _ _ _) y).trans ?_
  refine norm_put e 8192 7936 (by decide) rfl _ _ _ shapeCasts_S256x1_S256x1 rfl (fun y hy => ?_) y hy
  iterate 31
    rw [read_cons_put]
    refine norm_put e _ _ (by decide) rfl _ _ _ shapeCasts_S256x1_S256x1 rfl (fun y hy => ?_) y hy
  exact absurd hy (Nat.not_lt_zero _)

end Cert.Proof

end
-- ==== Proof.Body2.lean ====
/-
  The scattered sum's kernel body: what it leaves in the sums' block from what it found there.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Base
public import Idealize.ShloMosaic.Lib.Pipeline.Kit
public import Idealize.ShloMosaic.Lib.Tactic
public import Idealize.ShloMosaic.Lib.Pipeline.RegionArraysS
public import Idealize.ShloMosaic.Lib.Pipeline.ValueKit.Geometry

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F] [Named F]

local notation "𝕄" => MT nD τ sig Unit (Elt F) ℕ (UR sig nD τ) ℕ

/-- One block of 64 codes' one-hot rows: row `r` of it holds at column `i` whether code `w + r` is the one row `i` chose. -/
def hotBlock (v0 : Vec F S1x1x256 .i32) (w : BitVec 32) : Vec F S64x256 .bf16 :=
  truncf .bf16 (sitofp .f32 (extui 32 (cmpi .eq (addi (iota .tc S64x256 32 [0] iota_S64x256_d0_w32) (broadcast S64x256 w))
    (broadcastTo S64x256 (k2_pay1 v0) broadcasts_S1x256_S64x256)) natLt_1_32)) bitsLt_bf16_f32

/-- The one-hot rows of the 512 codes of trip `k`. -/
def hots (v0 : Vec F S1x1x256 .i32) (k : ℕ) : Vec F S512x256 .bf16 := fun y =>
  hotBlock v0 (Scalar.addi (Scalar.muli (Scf.iv 0#32 1#32 k) 512#32) (BitVec.ofNat 32 (64 * ((y 0).val / 64))))
    (fun a => match a with | ⟨0, _⟩ => ⟨(y 0).val % 64, Nat.mod_lt _ (by decide)⟩ | ⟨1, _⟩ => y 1)

/-- A block of 64 rows put over others. -/
theorem hots_put (v0 : Vec F S1x1x256 .i32) (k : ℕ) (m n c : ℕ) (hn : n = 64 * c) (hm : m = n + 64) (X : Vec F S512x256 .bf16) (w : Vec F S64x256 .bf16)
    (wd : BitVec 32) (hwd : wd = BitVec.ofNat 32 (64 * c)) (hw : w = hotBlock v0 (Scalar.addi (Scalar.muli (Scf.iv 0#32 1#32 k) 512#32) wd))
    (hX : ∀ y : S512x256.Idx, (y 0).val < n → X y = hots v0 k y) :
    ∀ y : S512x256.Idx, (y 0).val < m → put X ![n, 0] S64x256.size w y = hots v0 k y := by
  intro y hy
  unfold put
  by_cases h : ∀ a, (![n, 0] : Fin 2 → ℕ) a ≤ (y a).val ∧ (y a).val < (![n, 0] : Fin 2 → ℕ) a + S64x256.size a
  · rw [dif_pos h, hw, hwd]
    have h0 : n ≤ (y 0).val ∧ (y 0).val < n + 64 := h 0
    unfold hots
    have hc : (y 0).val / 64 = c := by omega
    rw [hc]
    refine congrArg (hotBlock v0 _) (funext fun a => Fin.ext ?_)
    match a with
    | ⟨0, _⟩ => show (y 0).val - n = (y 0).val % 64; omega
    | ⟨1, _⟩ => show (y 1).val - 0 = (y 1).val; omega
  · rw [dif_neg h]
    refine hX y ?_
    by_contra hge
    refine h fun a => ?_
    match a with
    | ⟨0, _⟩ => show n ≤ (y 0).val ∧ (y 0).val < n + 64; omega
    | ⟨1, _⟩ => show 0 ≤ (y 1).val ∧ (y 1).val < 0 + 256; exact ⟨Nat.zero_le _, by have : (y 1).val < 256 := (y 1).isLt; omega⟩

/-- The eight blocks of a trip, stored one after another and loaded back whole, are the one-hot rows. -/
theorem hots_cov (arg4 : Memref sig .tc .vmem S512x256 .bf16) (v0 : Vec F S1x1x256 .i32) (k : ℕ) (w0 w1 w2 w3 w4 w5 w6 w7 : Vec F S64x256 .bf16)
    (h0 : w0 = hotBlock v0 (Scalar.addi (Scalar.muli (Scf.iv 0#32 1#32 k) 512#32) 0#32)) (h1 : w1 = hotBlock v0 (Scalar.addi (Scalar.muli (Scf.iv 0#32 1#32 k) 512#32) 64#32)) (h2 : w2 = hotBlock v0 (Scalar.addi (Scalar.muli (Scf.iv 0#32 1#32 k) 512#32) 128#32)) (h3 : w3 = hotBlock v0 (Scalar.addi (Scalar.muli (Scf.iv 0#32 1#32 k) 512#32) 192#32)) (h4 : w4 = hotBlock v0 (Scalar.addi (Scalar.muli (Scf.iv 0#32 1#32 k) 512#32) 256#32)) (h5 : w5 = hotBlock v0 (Scalar.addi (Scalar.muli (Scf.iv 0#32 1#32 k) 512#32) 320#32)) (h6 : w6 = hotBlock v0 (Scalar.addi (Scalar.muli (Scf.iv 0#32 1#32 k) 512#32) 384#32)) (h7 : w7 = hotBlock v0 (Scalar.addi (Scalar.muli (Scf.iv 0#32 1#32 k) 512#32) 448#32)) :
    arg4.view.readCov [⟨Rect.unit ![448, 0] S64x256.size inb_S512x256_S64x256_448_0, w7⟩, ⟨Rect.unit ![384, 0] S64x256.size inb_S512x256_S64x256_384_0, w6⟩, ⟨Rect.unit ![320, 0] S64x256.size inb_S512x256_S64x256_320_0, w5⟩, ⟨Rect.unit ![256, 0] S64x256.size inb_S512x256_S64x256_256_0, w4⟩, ⟨Rect.unit ![192, 0] S64x256.size inb_S512x256_S64x256_192_0, w3⟩, ⟨Rect.unit ![128, 0] S64x256.size inb_S512x256_S64x256_128_0, w2⟩, ⟨Rect.unit ![64, 0] S64x256.size inb_S512x256_S64x256_64_0, w1⟩, ⟨Rect.unit ![0, 0] S64x256.size inb_S512x256_S64x256_0_0, w0⟩]
      (Rect.unit ![0, 0] S512x256.size inb_S512x256_S512x256_0_0).toLoadRect = hots v0 k := by
  rw [readCov_win, window_full (s := S512x256)]
  funext y
  have hy : (y 0).val < 512 := (y 0).isLt
  rw [read_cons_put]; refine hots_put v0 k 512 448 7 rfl rfl _ _ 448#32 rfl h7 (fun y hy => ?_) y hy
  rw [read_cons_put]; refine hots_put v0 k 448 384 6 rfl rfl _ _ 384#32 rfl h6 (fun y hy => ?_) y hy
  rw [read_cons_put]; refine hots_put v0 k 384 320 5 rfl rfl _ _ 320#32 rfl h5 (fun y hy => ?_) y hy
  rw [read_cons_put]; refine hots_put v0 k 320 256 4 rfl rfl _ _ 256#32 rfl h4 (fun y hy => ?_) y hy
  rw [read_cons_put]; refine hots_put v0 k 256 192 3 rfl rfl _ _ 192#32 rfl h3 (fun y hy => ?_) y hy
  rw [read_cons_put]; refine hots_put v0 k 192 128 2 rfl rfl _ _ 128#32 rfl h2 (fun y hy => ?_) y hy
  rw [read_cons_put]; refine hots_put v0 k 128 64 1 rfl rfl _ _ 64#32 rfl h1 (fun y hy => ?_) y hy
  rw [read_cons_put]; refine hots_put v0 k 64 0 0 rfl rfl _ _ 0#32 rfl h0 (fun y hy => ?_) y hy
  exact absurd hy (Nat.not_lt_zero _)

/-- One trip on the sums: 512 rows of them get the one-hot rows' product with the normalised rows added. -/
def dwTrip (v0 : Vec F S1x1x256 .i32) (x : Vec F S256x256 .f32) (k : ℕ) (D : Vec F S8192x256 .f32) : Vec F S8192x256 .f32 :=
  if h : k < k2_t1_loop.trips then
    put D (k2_off1 ⟨k, h⟩) S512x256.size (k2_pay6 x (hots v0 k) (window D (k2_off1 ⟨k, h⟩) S512x256.size (k2_off1_inb ⟨k, h⟩)))
  else D

/-- The sums after the first `k` trips. -/
def dwTrips (v0 : Vec F S1x1x256 .i32) (x : Vec F S256x256 .f32) (D : Vec F S8192x256 .f32) : ℕ → Vec F S8192x256 .f32
  | 0 => D
  | k + 1 => dwTrip v0 x k (dwTrips v0 x D k)

set_option maxHeartbeats 1000000 in
/-- One trip's region. -/
theorem dw_trip (c : Dev nD) (i : grid2.Coords) (arg1 : Memref sig .tc .vmem S1x1x256 .i32) (harg1 : arg1.IsWhole) (arg2 : Memref sig .tc .vmem S256x256 .f32) (harg2 : arg2.IsWhole) (arg3 : Memref sig .tc .vmem S8192x256 .f32) (harg3 : arg3.IsWhole) (arg4 : Memref sig .tc .vmem S512x256 .bf16) (harg4 : arg4.IsWhole)
    (v0 : Vec F S1x1x256 .i32) (x : Vec F S256x256 .f32) (k : Fin k2_t1_loop.trips) (D : Vec F S8192x256 .f32) (a : Vec F S512x256 .bf16) (E : Set ℕ) :
    (iprop((arg3.view.loc (c : Thread nD τ) ↦[arg3.view.set]{fullShare} harg3.unread D) ∗ (arg4.view.loc (c : Thread nD τ) ↦[arg4.view.set]{fullShare} harg4.unread a)) : sProp 𝕄)
      ⊢ wp frame (wpE (defs₀ (F := F)) Variants.none c none) E (k2_t1_body i arg1 harg1 arg2 harg2 arg3 harg3 arg4 harg4 v0 x k PUnit.unit)
        (fun _ => iprop((∃ f, (arg3.view.loc (c : Thread nD τ) ↦[arg3.view.set]{fullShare} f) ∗ ⌜f = harg3.unread (dwTrip v0 x k D)⌝)
          ∗ (∃ f, (arg4.view.loc (c : Thread nD τ) ↦[arg4.view.set]{fullShare} f)))) := by
  have hk : k.val < 16 := Nat.lt_of_lt_of_le k.isLt k2_t1_abs.2.1
  unfold k2_t1_body
  iintro ⟨H3, H4⟩
  sl_exec
  sl_step
  isplitl [H3]
  · iexists _; isplitl [H3]; · iexact H3
    ipureintro
    refine harg3.eq_unread ?_
    sl_unfold_run_names
    rw [read_cons_put, View.writes_nil, harg3.read_unread, readAt_win, harg3.read_unread]
    unfold dwTrip
    rw [dif_pos k.isLt]
    refine congrArg (fun z => put D (k2_off1 k) S512x256.size (k2_pay6 x z (window D (k2_off1 k) S512x256.size (k2_off1_inb k))))
      (hots_cov arg4 v0 k _ _ _ _ _ _ _ _ ?_ ?_ ?_ ?_ ?_ ?_ ?_ ?_)
    case refine_7 => unfold k2_pay4; exact shapeCast_self _ _
    case refine_8 => unfold k2_pay5; exact shapeCast_self _ _
    all_goals exact shapeCast_self _ _
  · iexists _; iexact H4

/-- What the loop leaves in the sums' buffer before each trip. -/
def dwState {arg3 : Memref sig .tc .vmem S8192x256 .f32} (harg3 : arg3.IsWhole) (G : BufTy.Contents (Elt F) arg3.view.ty)
    (d : ℕ → Vec F S8192x256 .f32) : ℕ → BufTy.Contents (Elt F) arg3.view.ty
  | 0 => G
  | k + 1 => harg3.unread (d (k + 1))

set_option warn.classDefReducibility false in
/-- The loop by its invariant: the sums after the trips so far, the one-hot rows' buffer at anything. -/
@[sl_loop] def dwLoop (c : Dev nD) (E : Set ℕ) (i : grid2.Coords) (arg1 : Memref sig .tc .vmem S1x1x256 .i32) (harg1 : arg1.IsWhole) (arg2 : Memref sig .tc .vmem S256x256 .f32) (harg2 : arg2.IsWhole) (arg3 : Memref sig .tc .vmem S8192x256 .f32) (harg3 : arg3.IsWhole) (arg4 : Memref sig .tc .vmem S512x256 .bf16) (harg4 : arg4.IsWhole)
    (v0 : Vec F S1x1x256 .i32) (x : Vec F S256x256 .f32) (G : BufTy.Contents (Elt F) arg3.view.ty) :
    LoopInv (M := 𝕄) frame (wpE (defs₀ (F := F)) Variants.none (c : Thread nD τ) none) E
      k2_t1_loop.lb k2_t1_loop.ub k2_t1_loop.st k2_t1_ok () (k2_t1_body (F := F) i arg1 harg1 arg2 harg2 arg3 harg3 arg4 harg4 v0 x) where
  inv k _ := iprop((∃ f, (arg3.view.loc (c : Thread nD τ) ↦[arg3.view.set]{fullShare} f) ∗ ⌜f = dwState harg3 G (dwTrips v0 x (arg3.view.read (Elt F) G)) k⌝)
    ∗ (∃ f, (arg4.view.loc (c : Thread nD τ) ↦[arg4.view.set]{fullShare} f)))
  step k acc := by
    iintro ⟨⟨%f3, H3, %h3⟩, ⟨%f4, H4⟩⟩
    have e3 : f3 = harg3.unread (dwTrips v0 x (arg3.view.read (Elt F) G) k.val) := by
      rw [h3]
      rcases k with ⟨_ | k, hk⟩
      · exact harg3.eq_unread rfl
      · rfl
    have e4 : f4 = harg4.unread (arg4.view.read (Elt F) f4) := harg4.eq_unread rfl
    rw [e3, e4]
    iapply (dw_trip c i arg1 harg1 arg2 harg2 arg3 harg3 arg4 harg4 v0 x k)
    isplitl [H3]; · iexact H3
    iexact H4

/-- The sums before the first point. -/
def dwZero : Vec F S8192x256 .f32 := fun _ => Scalar.ofBits .f32 0x00000000#32

/-- A block of 256 rows of zeros put over others. -/
theorem zero_put (m n : ℕ) (hm : m = n + 256) (X : Vec F S8192x256 .f32) (w : Vec F S256x256 .f32)
    (hw : ∀ j, w j = Scalar.ofBits .f32 0x00000000#32) (hX : ∀ y : S8192x256.Idx, (y 0).val < n → X y = dwZero y) :
    ∀ y : S8192x256.Idx, (y 0).val < m → put X ![n, 0] S256x256.size w y = dwZero y := by
  intro y hy
  unfold put
  by_cases h : ∀ a, (![n, 0] : Fin 2 → ℕ) a ≤ (y a).val ∧ (y a).val < (![n, 0] : Fin 2 → ℕ) a + S256x256.size a
  · rw [dif_pos h, hw]; rfl
  · rw [dif_neg h]
    refine hX y ?_
    by_contra hge
    refine h fun a => ?_
    match a with
    | ⟨0, _⟩ => show n ≤ (y 0).val ∧ (y 0).val < n + 256; omega
    | ⟨1, _⟩ => show 0 ≤ (y 1).val ∧ (y 1).val < 0 + 256; exact ⟨Nat.zero_le _, by have : (y 1).val < 256 := (y 1).isLt; omega⟩

/-- What the sums' buffer reads after `n` trips. -/
theorem read_dwState {arg3 : Memref sig .tc .vmem S8192x256 .f32} (harg3 : arg3.IsWhole) (G : BufTy.Contents (Elt F) arg3.view.ty)
    (d : ℕ → Vec F S8192x256 .f32) (h0 : d 0 = arg3.view.read (Elt F) G) (n : ℕ) : arg3.view.read (Elt F) (dwState harg3 G d n) = d n := by
  cases n with
  | zero => exact h0.symm
  | succ n => exact harg3.read_unread _

/-- Whether a point is the first: its sums start at zero. -/
abbrev first2 (i : grid2.Coords) : Prop :=
  Scalar.cmpi .ne (Scalar.extui (Scalar.cmpi .eq (BitVec.ofNat 32 (i 0).val) 0#32) : BitVec 32) 0#32 = 1#1

set_option maxHeartbeats 4000000 in
/-- The first point: from any sums, sixteen trips from zero. -/
theorem body2_first (c : Dev nD) (i : grid2.Coords) (arg1 : Memref sig .tc .vmem S1x1x256 .i32) (harg1 : arg1.IsWhole) (arg2 : Memref sig .tc .vmem S256x256 .f32) (harg2 : arg2.IsWhole) (arg3 : Memref sig .tc .vmem S8192x256 .f32) (harg3 : arg3.IsWhole) (arg4 : Memref sig .tc .vmem S512x256 .bf16) (harg4 : arg4.IsWhole) (hc : first2 i)
    (v : Vec F S1x1x256 .i32) (x : Vec F S256x256 .f32) (o : Vec F S8192x256 .f32) (a : Vec F S512x256 .bf16) (E : Set ℕ) (K : PUnit → sProp 𝕄) :
    iprop(owns (c : Thread nD τ) arg1 fullShare v ∗ owns (c : Thread nD τ) arg2 fullShare x ∗ owns (c : Thread nD τ) arg3 fullShare o ∗ owns (c : Thread nD τ) arg4 fullShare a
        ∗ (iprop(owns (c : Thread nD τ) arg1 fullShare v ∗ owns (c : Thread nD τ) arg2 fullShare x
          ∗ owns (c : Thread nD τ) arg3 fullShare (dwTrips v x dwZero 16) ∗ (∃ a, owns (c : Thread nD τ) arg4 fullShare a)) -∗ K ⟨⟩))
      ⊢ wp frame (wpE (defs₀ (F := F)) Variants.none c none) E (cc2__dw_body i arg1 harg1 arg2 harg2 arg3 harg3 arg4 harg4) K := by
  simp only [cc2__dw_body_eq_skeleton]; unfold cc2__dw_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    sl_unfold_run_names
    rw [read_dwState harg3 _ _ rfl, readAt_win, readAt_win, harg1.read_unread, harg2.read_unread, window_full (s := S1x1x256), window_full (s := S256x256)]
    refine congrArg (fun D => dwTrips v x D 16) ?_
    funext y
    have hy : (y 0).val < 8192 := (y 0).isLt
    refine (congrFun (read_cons_put arg3.view _ _ _ _) y).trans ?_
    refine zero_put 8192 7936 rfl _ _ (fun _ => rfl) (fun y hy => ?_) y hy
    iterate 31
      rw [read_cons_put]
      refine zero_put _ _ rfl _ _ (fun _ => rfl) (fun y hy => ?_) y hy
    exact absurd hy (Nat.not_lt_zero _)
  iexists _; iexists _; isplitr; swap; · iexact H4
  ipureintro; rfl

set_option maxHeartbeats 4000000 in
/-- A later point: sixteen trips from the sums found. -/
theorem body2_next (c : Dev nD) (i : grid2.Coords) (arg1 : Memref sig .tc .vmem S1x1x256 .i32) (harg1 : arg1.IsWhole) (arg2 : Memref sig .tc .vmem S256x256 .f32) (harg2 : arg2.IsWhole) (arg3 : Memref sig .tc .vmem S8192x256 .f32) (harg3 : arg3.IsWhole) (arg4 : Memref sig .tc .vmem S512x256 .bf16) (harg4 : arg4.IsWhole) (hc : ¬first2 i)
    (v : Vec F S1x1x256 .i32) (x : Vec F S256x256 .f32) (o : Vec F S8192x256 .f32) (a : Vec F S512x256 .bf16) (E : Set ℕ) (K : PUnit → sProp 𝕄) :
    iprop(owns (c : Thread nD τ) arg1 fullShare v ∗ owns (c : Thread nD τ) arg2 fullShare x ∗ owns (c : Thread nD τ) arg3 fullShare o ∗ owns (c : Thread nD τ) arg4 fullShare a
        ∗ (iprop(owns (c : Thread nD τ) arg1 fullShare v ∗ owns (c : Thread nD τ) arg2 fullShare x
          ∗ owns (c : Thread nD τ) arg3 fullShare (dwTrips v x o 16) ∗ (∃ a, owns (c : Thread nD τ) arg4 fullShare a)) -∗ K ⟨⟩))
      ⊢ wp frame (wpE (defs₀ (F := F)) Variants.none c none) E (cc2__dw_body i arg1 harg1 arg2 harg2 arg3 harg3 arg4 harg4) K := by
  simp only [cc2__dw_body_eq_skeleton]; unfold cc2__dw_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    rw [read_dwState harg3 _ _ rfl, readAt_win, readAt_win, harg1.read_unread, harg2.read_unread, window_full (s := S1x1x256), window_full (s := S256x256)]
    exact congrArg (fun D => dwTrips v x D 16) (harg3.read_unread o)
  iexists _; iexists _; isplitr; swap; · iexact H4
  ipureintro; rfl

end Cert.Proof

end
-- ==== Proof.Region2.lean ====
/-
  The scattered sum's region: the sums after each grid point as a function of the indices and the normalised rows,
  the region's proof data over them, and the body obligation.
-/
module

public import proofs.«01_k».proof.Proof.Body2

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F] [Named F]

local notation "𝕄" => MT nD τ sig Unit (Elt F) ℕ (UR sig nD τ) ℕ

/-- The 256 indices point `n` works on lie in the array. -/
theorem inb_idx (n : ℕ) : ∀ a, (![n % 64, 0, 0] : Fin 3 → ℕ) a + S1x1x256.size a ≤ S64x1x256.size a := fun a => by
  match a with
  | ⟨0, _⟩ => show n % 64 + 1 ≤ 64; omega
  | ⟨1, _⟩ => show 0 + 1 ≤ 1; omega
  | ⟨2, _⟩ => show 0 + 256 ≤ 256; omega

/-- The 256 rows point `n` works on lie in the array. -/
theorem inb_rows (n : ℕ) : ∀ a, (![256 * (n % 64), 0] : Fin 2 → ℕ) a + S256x256.size a ≤ S16384x256.size a := fun a => by
  match a with
  | ⟨0, _⟩ => show 256 * (n % 64) + 256 ≤ 16384; omega
  | ⟨1, _⟩ => show 0 + 256 ≤ 256; omega

/-- The indices of point `n`. -/
def idxRows (X : Vec F S64x1x256 .i32) (n : ℕ) : Vec F S1x1x256 .i32 := window X ![n % 64, 0, 0] S1x1x256.size (inb_idx n)

/-- The 256 rows of point `n`. -/
def rows256 (X : Vec F S16384x256 .f32) (n : ℕ) : Vec F S256x256 .f32 := window X ![256 * (n % 64), 0] S256x256.size (inb_rows n)

/-- The sums after the first `n` points. -/
def dwSums (I : Vec F S64x1x256 .i32) (X : Vec F S16384x256 .f32) : ℕ → Vec F S8192x256 .f32
  | 0 => dwZero
  | n + 1 => dwTrips (idxRows I n) (rows256 X n) (dwSums I X n) 16

/-- The first step is step 0. -/
theorem hfirst2 : ∀ t : Fin cfg2.N, first2 (grid2.coords t) ↔ t.val = 0 :=
  (by decide +kernel : ∀ t : Fin grid2.N, first2 (grid2.coords t) ↔ t.val = 0)

variable (V : Dev nD → Valuation τ sig (Elt F))

/-- Window `w`'s block at point `t` of the array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The sums of the region entered at `V`. -/
abbrev sums2 (c : Dev nD) : ℕ → Vec F S8192x256 .f32 := dwSums (V c main_call0_v1_1) (V c main_call0_v1_0)

/-- The invariant: the one-hot rows' buffer at anything, beside the launch's other buffers. -/
def Phi2 (c : Dev nD) : sProp 𝕄 :=
  iprop((∃ a, owns (c : Thread nD τ) (Memref.whole cc2_scratch0) fullShare a) ∗ Pipeline.scopedRestBut (Ix := Unit) (Name := ℕ) (U := UR sig nD τ) (Lvl := ℕ) (Val := Elt F) spec2 c [cc2_scratch0])

/-- The proof data of the region entered at `V`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => sums2 V c (t.val + 1)
  Φ _ := Phi2 c
  q _ := fullShare
  owed _ := 0

/-- A step finds its block of the codes. -/
theorem before2_0 (c : Dev nD) (t : Fin cfg2.N) (d) : (dat2 V c).before 0 t d = blk2 V c 0 t :=
  ((dat2 V c).before_in_eq_fetched 0 rfl (fun _ => rfl) (fun _ _ _ => rfl) (fun _ => rfl) t d).trans rfl
/-- A step finds its block of the normalised rows. -/
theorem before2_1 (c : Dev nD) (t : Fin cfg2.N) (d) : (dat2 V c).before 1 t d = blk2 V c 1 t :=
  ((dat2 V c).before_in_eq_fetched 1 rfl (fun _ => rfl) (fun _ _ _ => rfl) (fun _ => rfl) t d).trans rfl
/-- After the first point the sums' block holds what the point before left. -/
theorem before2_2 (c : Dev nD) (t : Fin cfg2.N) (ht : t.val ≠ 0) (d) : (dat2 V c).before 2 t d = sums2 V c t.val := by
  have hN : t.val < 64 := t.isLt
  rw [(dat2 V c).before_out_kept 2 rfl t ht (by
    cases h' : (cfg2.win 2).flush ⟨t.val - 1, Nat.lt_of_le_of_lt (Nat.sub_le _ _) t.isLt⟩
    · rfl
    · have := (flush2_2 _).mp h'; dsimp only at this; omega) (fun _ => rfl) (fun _ _ => rfl)]
  show sums2 V c (t.val - 1 + 1) = _
  rw [Nat.sub_add_cancel (Nat.pos_of_ne_zero ht)]

/-- Where a step's block of the codes lies. -/
theorem index2_0 : ∀ t : Fin cfg2.N, win2_0.index t = ![t.val % 64, 0, 0] :=
  (by decide +kernel : ∀ t : Fin grid2.N, win2_0.index t = ![t.val % 64, 0, 0])
/-- Where a step's block of the normalised rows lies. -/
theorem index2_1 : ∀ t : Fin cfg2.N, win2_1.index t = ![t.val % 64, 0] :=
  (by decide +kernel : ∀ t : Fin grid2.N, win2_1.index t = ![t.val % 64, 0])

/-- A step's block of the codes, by the step's number. -/
theorem blk2_0 (c : Dev nD) (t : Fin cfg2.N) : blk2 V c 0 t = idxRows (V c main_call0_v1_1) t.val := by
  funext y
  refine congrArg (V c main_call0_v1_1) (funext fun a => Fin.ext ?_)
  match a with
  | ⟨0, _⟩ =>
    show (((cfg2.win 0).blk t).view.emb y 0 : ℕ) = t.val % 64 + 1 * (y 0).val
    blk_simp [index2_0]
  | ⟨1, _⟩ =>
    show (((cfg2.win 0).blk t).view.emb y 1 : ℕ) = 0 + 1 * (y 1).val
    blk_simp [index2_0]
  | ⟨2, _⟩ =>
    show (((cfg2.win 0).blk t).view.emb y 2 : ℕ) = 0 + 1 * (y 2).val
    blk_simp [index2_0]
/-- A step's block of the normalised rows, by the step's number. -/
theorem blk2_1 (c : Dev nD) (t : Fin cfg2.N) : blk2 V c 1 t = rows256 (V c main_call0_v1_0) t.val := by
  funext y
  refine congrArg (V c main_call0_v1_0) (funext fun a => Fin.ext ?_)
  match a with
  | ⟨0, _⟩ =>
    show (((cfg2.win 1).blk t).view.emb y 0 : ℕ) = 256 * (t.val % 64) + 1 * (y 0).val
    blk_simp [index2_1]
    show t.val % 64 * 256 + (y 0).val = _
    omega
  | ⟨1, _⟩ =>
    show (((cfg2.win 1).blk t).view.emb y 1 : ℕ) = 0 + 1 * (y 1).val
    blk_simp [index2_1]

/-- The body at a grid point. -/
theorem body_point2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d)))
    ⊢ wp frame (wpE (defs₀ (F := F)) Variants.none c none) Set.univ (bodyAt2 t) (fun _ => iprop((dat2 V c).Φ t.succ ∗ (dat2 V c).owesAt () t.succ
      ∗ owns (c : Thread nD τ) (win2_0.stage (cfg2.slots t 0)) fullShare ((dat2 V c).after 0 t)
      ∗ owns (c : Thread nD τ) (win2_1.stage (cfg2.slots t 1)) fullShare ((dat2 V c).after 1 t)
      ∗ owns (c : Thread nD τ) (win2_2.stage (cfg2.slots t 2)) fullShare ((dat2 V c).after 2 t))) := by
  unfold bodyAt2
  rw [show (dat2 V c).Φ t.castSucc = Phi2 c from rfl, show (dat2 V c).Φ t.succ = Phi2 c from rfl, show (dat2 V c).owesAt () t.succ = (dat2 V c).owesAt () t.castSucc from rfl,
    show (dat2 V c).after 0 t = blk2 V c 0 t from rfl, show (dat2 V c).after 1 t = blk2 V c 1 t from rfl,
    show (dat2 V c).after 2 t = dwTrips (idxRows (V c main_call0_v1_1) t.val) (rows256 (V c main_call0_v1_0) t.val) (sums2 V c t.val) 16 from rfl]
  simp only [before2_0, before2_1, blk2_0, blk2_1]
  unfold Phi2
  iintro ⟨⟨⟨%a, HS⟩, Hr⟩, Ho, ⟨%d0, H0⟩, ⟨%d1, H1⟩, ⟨%d2, H2⟩⟩
  by_cases ht : t.val = 0
  · rw [show sums2 V c t.val = dwZero from by rw [ht]; rfl]
    iapply (body2_first c (grid2.coords t) _ _ _ _ _ _ _ _ ((hfirst2 t).mpr ht) _ _ _ _ Set.univ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · rw [before2_2 V c t ht]
    iapply (body2_next c (grid2.coords t) _ _ _ _ _ _ _ _ (fun h => ht ((hfirst2 t).mp h)) _ _ _ _ Set.univ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2

/-- The launch's body at a point, its arguments written out. -/
theorem defs₀_row2 (t : Fin cfg2.N) : defs₀ (F := F) .tc cfg2.body (cfg2.bodyArgs t (cfg2.slots t)) = bodyAt2 t := by
  unfold defs₀; rw [Defs.onTc_tc]

/-- The body obligation of the region. -/
theorem body_obligation2 (c : Dev nD) : BodyObligation (dat2 V c) (defs₀ (F := F)) Variants.none () Set.univ := fun t => by
  rw [bigSep_W2, bigSep_W2, defs₀_row2]
  exact triple_restated (body_point2 V c t) rfl .rfl fun _ => .rfl

/-- Entered with the launch's buffers at anything, -/
theorem in2 (c : Dev nD) : iprop(Pipeline.scopedRest (Ix := Unit) (Name := ℕ) (U := UR sig nD τ) (Lvl := ℕ) (Val := Elt F) spec2 c ∗ emp) ⊢ (dat2 V c).Φ 0 := by
  show _ ⊢ Phi2 c
  unfold Phi2
  rw [scopedRest2_split]
  simp only [owns_whole_eq]
  iintro ⟨⟨⟨%f, H⟩, Hr⟩, _⟩
  isplitl [H]
  · iexists f; iexists f; isplitr
    · ipureintro; rfl
    · iexact H
  iexact Hr

/-- left with them at anything. -/
theorem out2 (c : Dev nD) : (dat2 V c).Φ (Fin.last cfg2.N) ⊢ iprop(Pipeline.scopedRest (Ix := Unit) (Name := ℕ) (U := UR sig nD τ) (Lvl := ℕ) (Val := Elt F) spec2 c ∗ emp) := by
  show Phi2 c ⊢ _
  unfold Phi2
  rw [scopedRest2_split]
  simp only [owns_whole_eq]
  iintro ⟨⟨%a, ⟨%f, %hf, H⟩⟩, Hr⟩
  isplitl [H Hr]
  · isplitl [H]
    · iexists f; iexact H
    · iexact Hr
  · iempintro

/-- The region leaves the sums in its output array. -/
theorem arrAt2_2 (c : Dev nD) : (dat2 V c).arrAt 2 cfg2.N = sums2 V c 64 :=
  (dat2 V c).arrAt_eq_of_after_last 2 (⟨63, by decide⟩ : Fin cfg2.N) (by decide +kernel) _ fun j => by
    refine congrArg (sums2 V c 64) (funext fun a => Fin.ext ?_)
    match a with
    | ⟨0, _⟩ => rfl
    | ⟨1, _⟩ => rfl

end Cert.Proof

end
-- ==== Proof.Region1.lean ====
/-
  The nearest-code region: what each grid point leaves as a function of the statistics, the rows and the codes,
  the region's proof data over it, and the body obligation.
-/
module

public import proofs.«01_k».proof.Proof.Body1
public import proofs.«01_k».proof.Proof.Region2

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F] [Named F]

local notation "𝕄" => MT nD τ sig Unit (Elt F) ℕ (UR sig nD τ) ℕ

variable (V : Dev nD → Valuation τ sig (Elt F))

/-- The normalised rows of all points. -/
def xnAll (s : Vec F S2x256 .f32) (X : Vec F S16384x256 .f32) : Vec F S16384x256 .f32 := fun y =>
  xnOf s (rows256 X ((y 0).val / 256)) (fun a => match a with | ⟨0, _⟩ => ⟨(y 0).val % 256, Nat.mod_lt _ (by decide)⟩ | ⟨1, _⟩ => y 1)

/-- The nearest codes of all points. -/
def idxAll (s : Vec F S2x256 .f32) (X : Vec F S16384x256 .f32) (e : Vec F S8192x256 .f32) : Vec F S64x1x256 .i32 := fun y =>
  idxOf (codesOf s (rows256 X (y 0).val) e) (fun a => match a with | ⟨0, _⟩ => ⟨0, Nat.zero_lt_one⟩ | ⟨1, _⟩ => y 1 | ⟨2, _⟩ => y 2)

/-- The counts after the first `n` points. -/
def cntsOf (s : Vec F S2x256 .f32) (X : Vec F S16384x256 .f32) (e : Vec F S8192x256 .f32) : ℕ → Vec F S8192x1 .f32
  | 0 => cntZero
  | n + 1 => cntTrips (codesOf s (rows256 X n) e) (cntsOf s X e n) 16

/-- The first step is step 0. -/
theorem hfirst1 : ∀ t : Fin cfg1.N, first1 (grid1.coords t) ↔ t.val = 0 :=
  (by decide +kernel : ∀ t : Fin grid1.N, first1 (grid1.coords t) ↔ t.val = 0)

/-- Window `w`'s block at point `t` of the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The counts of the region entered at `V`. -/
abbrev cnts1 (c : Dev nD) : ℕ → Vec F S8192x1 .f32 := cntsOf (V c main_call0_v0) (V c main_arg0) (V c main_arg1)

/-- The invariant: after the first point the norms' buffer holds the codes' norms. -/
def Phi1 (c : Dev nD) (n : ℕ) : sProp 𝕄 :=
  iprop((∃ a, ⌜n ≠ 0 → a = normsOf (V c main_arg1)⌝ ∗ owns (c : Thread nD τ) (Memref.whole cc1_scratch0) fullShare a) ∗ Pipeline.scopedRestBut (Ix := Unit) (Name := ℕ) (U := UR sig nD τ) (Lvl := ℕ) (Val := Elt F) spec1 c [cc1_scratch0])

/-- The proof data of the region entered at `V`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => xnOf (V c main_call0_v0) (rows256 (V c main_arg0) t.val)
    | ⟨4, _⟩ => idxOf (codesOf (V c main_call0_v0) (rows256 (V c main_arg0) t.val) (V c main_arg1))
    | ⟨5, _⟩ => cnts1 V c (t.val + 1)
  Φ t := Phi1 V c t.val
  q _ := fullShare
  owed _ := 0

/-- A step finds its block of the statistics. -/
theorem before1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
/-- A step finds its block of the rows. -/
theorem before1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
/-- A step finds its block of the codebook. -/
theorem before1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl
/-- After the first point the counts' block holds what the point before left. -/
theorem before1_5 (c : Dev nD) (t : Fin cfg1.N) (ht : t.val ≠ 0) (d) : (dat1 V c).before 5 t d = cnts1 V c t.val := by
  have hN : t.val < 64 := t.isLt
  rw [(dat1 V c).before_out_kept 5 rfl t ht (by
    cases h' : (cfg1.win 5).flush ⟨t.val - 1, Nat.lt_of_le_of_lt (Nat.sub_le _ _) t.isLt⟩
    · rfl
    · have := (flush1_5 _).mp h'; dsimp only at this; omega) (fun _ => rfl) (fun _ _ => rfl)]
  show cnts1 V c (t.val - 1 + 1) = _
  rw [Nat.sub_add_cancel (Nat.pos_of_ne_zero ht)]

/-- Where a step's block of the statistics lies. -/
theorem index1_0 : ∀ t : Fin cfg1.N, win1_0.index t = ![0, 0] := (by decide +kernel : ∀ t : Fin grid1.N, win1_0.index t = ![0, 0])
/-- Where a step's block of the rows lies. -/
theorem index1_1 : ∀ t : Fin cfg1.N, win1_1.index t = ![t.val % 64, 0] :=
  (by decide +kernel : ∀ t : Fin grid1.N, win1_1.index t = ![t.val % 64, 0])
/-- Where a step's block of the codebook lies. -/
theorem index1_2 : ∀ t : Fin cfg1.N, win1_2.index t = ![0, 0] := (by decide +kernel : ∀ t : Fin grid1.N, win1_2.index t = ![0, 0])
/-- Where a step's block of the normalised rows (the result) lies. -/
theorem index1_3 : ∀ t : Fin cfg1.N, win1_3.index t = ![t.val % 64, 0] :=
  (by decide +kernel : ∀ t : Fin grid1.N, win1_3.index t = ![t.val % 64, 0])
/-- Where a step's block of the codes (the result) lies. -/
theorem index1_4 : ∀ t : Fin cfg1.N, win1_4.index t = ![t.val % 64, 0, 0] :=
  (by decide +kernel : ∀ t : Fin grid1.N, win1_4.index t = ![t.val % 64, 0, 0])

/-- A step's block of the statistics, by the step's number. -/
theorem blk1_0 (c : Dev nD) (t : Fin cfg1.N) : blk1 V c 0 t = V c main_call0_v0 := by
  funext y
  refine congrArg (V c main_call0_v0) (funext fun a => Fin.ext ?_)
  match a with
  | ⟨0, _⟩ =>
    show (((cfg1.win 0).blk t).view.emb y 0 : ℕ) = (y 0).val
    blk_simp [index1_0]
  | ⟨1, _⟩ =>
    show (((cfg1.win 0).blk t).view.emb y 1 : ℕ) = (y 1).val
    blk_simp [index1_0]
/-- A step's block of the rows, by the step's number. -/
theorem blk1_1 (c : Dev nD) (t : Fin cfg1.N) : blk1 V c 1 t = rows256 (V c main_arg0) t.val := by
  funext y
  refine congrArg (V c main_arg0) (funext fun a => Fin.ext ?_)
  match a with
  | ⟨0, _⟩ =>
    show (((cfg1.win 1).blk t).view.emb y 0 : ℕ) = 256 * (t.val % 64) + 1 * (y 0).val
    blk_simp [index1_1]
    show t.val % 64 * 256 + (y 0).val = _
    omega
  | ⟨1, _⟩ =>
    show (((cfg1.win 1).blk t).view.emb y 1 : ℕ) = 0 + 1 * (y 1).val
    blk_simp [index1_1]
/-- A step's block of the codebook, by the step's number. -/
theorem blk1_2 (c : Dev nD) (t : Fin cfg1.N) : blk1 V c 2 t = V c main_arg1 := by
  funext y
  refine congrArg (V c main_arg1) (funext fun a => Fin.ext ?_)
  match a with
  | ⟨0, _⟩ =>
    show (((cfg1.win 2).blk t).view.emb y 0 : ℕ) = (y 0).val
    blk_simp [index1_2]
  | ⟨1, _⟩ =>
    show (((cfg1.win 2).blk t).view.emb y 1 : ℕ) = (y 1).val
    blk_simp [index1_2]

/-- The body at a grid point. -/
theorem body_point1 (c : Dev nD) (t : Fin cfg1.N) :
    iprop(Phi1 V c t.val ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d))
      ∗ (∃ d, owns (c : Thread nD τ) (win1_2.stage (cfg1.slots t 2)) fullShare ((dat1 V c).before 2 t d))
      ∗ (∃ d, owns (c : Thread nD τ) (win1_3.stage (cfg1.slots t 3)) fullShare ((dat1 V c).before 3 t d))
      ∗ (∃ d, owns (c : Thread nD τ) (win1_4.stage (cfg1.slots t 4)) fullShare ((dat1 V c).before 4 t d))
      ∗ (∃ d, owns (c : Thread nD τ) (win1_5.stage (cfg1.slots t 5)) fullShare ((dat1 V c).before 5 t d)))
    ⊢ wp frame (wpE (defs₀ (F := F)) Variants.none c none) Set.univ (bodyAt1 t) (fun _ => iprop(Phi1 V c (t.val + 1) ∗ (dat1 V c).owesAt () t.castSucc
      ∗ owns (c : Thread nD τ) (win1_0.stage (cfg1.slots t 0)) fullShare ((dat1 V c).after 0 t)
      ∗ owns (c : Thread nD τ) (win1_1.stage (cfg1.slots t 1)) fullShare ((dat1 V c).after 1 t)
      ∗ owns (c : Thread nD τ) (win1_2.stage (cfg1.slots t 2)) fullShare ((dat1 V c).after 2 t)
      ∗ owns (c : Thread nD τ) (win1_3.stage (cfg1.slots t 3)) fullShare ((dat1 V c).after 3 t)
      ∗ owns (c : Thread nD τ) (win1_4.stage (cfg1.slots t 4)) fullShare ((dat1 V c).after 4 t)
      ∗ owns (c : Thread nD τ) (win1_5.stage (cfg1.slots t 5)) fullShare ((dat1 V c).after 5 t))) := by
  unfold bodyAt1
  rw [show (dat1 V c).after 0 t = blk1 V c 0 t from rfl, show (dat1 V c).after 1 t = blk1 V c 1 t from rfl, show (dat1 V c).after 2 t = blk1 V c 2 t from rfl,
    show (dat1 V c).after 3 t = xnOf (V c main_call0_v0) (rows256 (V c main_arg0) t.val) from rfl,
    show (dat1 V c).after 4 t = idxOf (codesOf (V c main_call0_v0) (rows256 (V c main_arg0) t.val) (V c main_arg1)) from rfl,
    show (dat1 V c).after 5 t = cntTrips (codesOf (V c main_call0_v0) (rows256 (V c main_arg0) t.val) (V c main_arg1)) (cnts1 V c t.val) 16 from rfl]
  simp only [before1_0, before1_1, before1_2, blk1_0, blk1_1, blk1_2]
  unfold Phi1
  iintro ⟨⟨⟨%a, %ha, HS⟩, Hr⟩, Ho, ⟨%d0, H0⟩, ⟨%d1, H1⟩, ⟨%d2, H2⟩, ⟨%d3, H3⟩, ⟨%d4, H4⟩, ⟨%d5, H5⟩⟩
  by_cases ht : t.val = 0
  · rw [show cnts1 V c t.val = cntZero from by rw [ht]; rfl]
    iapply (body1_first c (grid1.coords t) _ _ _ _ _ _ _ _ _ _ _ _ _ _ ((hfirst1 t).mpr ht) _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr]
    · isplitl [HS]
      · iexists _; isplitr; swap; · iexact HS
        ipureintro; exact fun _ => rfl
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [before1_5 V c t ht]
    iapply (body1_next c (grid1.coords t) _ _ _ _ _ _ _ _ _ _ _ _ _ _ (fun h => ht ((hfirst1 t).mp h)) _ _ _ _ _ _ _ (ha ht) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr]
    · isplitl [HS]
      · iexists _; isplitr; swap; · iexact HS
        ipureintro; exact fun _ => rfl
      iexact Hr
    isplitl [Ho]; · iexact Ho
    isplitl [H0]; · iexact H0
    isplitl [H1]; · iexact H1
    isplitl [H2]; · iexact H2
    isplitl [H3]; · iexact H3
    isplitl [H4]; · iexact H4
    iexact H5

/-- The launch's body at a point, its arguments written out. -/
theorem defs₀_row1 (t : Fin cfg1.N) : defs₀ (F := F) .tc cfg1.body (cfg1.bodyArgs t (cfg1.slots t)) = bodyAt1 t := by
  unfold defs₀; rw [Defs.onTc_tc]

/-- The body obligation of the region. -/
theorem body_obligation1 (c : Dev nD) : BodyObligation (dat1 V c) (defs₀ (F := F)) Variants.none () Set.univ := fun t => by
  rw [bigSep_W1, bigSep_W1, defs₀_row1]
  exact triple_restated (body_point1 V c t) rfl .rfl fun _ => .rfl

/-- The launch's buffers that no window of the region stages, the norms' buffer taken out. -/
theorem scopedRest1_split (c : Dev nD) : (Pipeline.scopedRest (Ix := Unit) (Name := ℕ) (U := UR sig nD τ) (Lvl := ℕ) (Val := Elt F) spec1 c : sProp 𝕄)
    = iprop((∃ f, ((c : Thread nD τ).loc cc1_scratch0) ↦{fullShare} f) ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- Entered with the launch's buffers at anything, -/
theorem in1 (c : Dev nD) : iprop(Pipeline.scopedRest (Ix := Unit) (Name := ℕ) (U := UR sig nD τ) (Lvl := ℕ) (Val := Elt F) spec1 c ∗ emp) ⊢ (dat1 V c).Φ 0 := by
  show _ ⊢ Phi1 V c 0
  unfold Phi1
  rw [scopedRest1_split]
  iintro ⟨⟨⟨%f, H⟩, Hr⟩, _⟩
  isplitl [H]
  · iexists f; isplitr
    · ipureintro; exact fun h => absurd rfl h
    · rw [owns_whole_eq]; iexists f; isplitr
      · ipureintro; rfl
      · iexact H
  iexact Hr

/-- left with them at anything. -/
theorem out1 (c : Dev nD) : (dat1 V c).Φ (Fin.last cfg1.N) ⊢ iprop(Pipeline.scopedRest (Ix := Unit) (Name := ℕ) (U := UR sig nD τ) (Lvl := ℕ) (Val := Elt F) spec1 c ∗ emp) := by
  show Phi1 V c cfg1.N ⊢ _
  unfold Phi1
  rw [scopedRest1_split]
  simp only [owns_whole_eq]
  iintro ⟨⟨%a, %ha, ⟨%f, %hf, H⟩⟩, Hr⟩
  isplitl [H Hr]
  · isplitl [H]
    · iexists f; iexact H
    · iexact Hr
  · iempintro

/-- The region leaves the normalised rows in its first output array, -/
theorem arrAt1_3 (c : Dev nD) : (dat1 V c).arrAt 3 cfg1.N = xnAll (V c main_call0_v0) (V c main_arg0) :=
  (dat1 V c).arrAt_eq_of_covers 3 _ (by decide +kernel) fun t hf y => by
    have ht : t.val < 64 := t.isLt
    have hy : (y 0).val < 256 := (y 0).isLt
    have e0 : (((cfg1.win 3).blk t).view.emb y 0 : ℕ) = t.val % 64 * 256 + (y 0).val := by blk_simp [index1_3]
    have e1 : (((cfg1.win 3).blk t).view.emb y 1 : ℕ) = (y 1).val := by blk_simp [index1_3]
    have hq : ((((cfg1.win 3).blk t).view.emb y 0 : ℕ)) / 256 = t.val := by rw [e0]; omega
    have hr : ((((cfg1.win 3).blk t).view.emb y 0 : ℕ)) % 256 = (y 0).val := by rw [e0]; omega
    show xnOf (V c main_call0_v0) (rows256 (V c main_arg0) t.val) _ = _
    unfold xnAll
    rw [hq]
    refine congrArg (xnOf (F := F) _ _) (funext fun a => Fin.ext ?_)
    match a with
    | ⟨0, _⟩ => exact hr.symm
    | ⟨1, _⟩ => exact e1.symm

/-- the nearest codes in its second, -/
theorem arrAt1_4 (c : Dev nD) : (dat1 V c).arrAt 4 cfg1.N = idxAll (V c main_call0_v0) (V c main_arg0) (V c main_arg1) :=
  (dat1 V c).arrAt_eq_of_covers 4 _ (by decide +kernel) fun t hf y => by
    have ht : t.val < 64 := t.isLt
    have hy : (y 0).val < 1 := (y 0).isLt
    have e0 : (((cfg1.win 4).blk t).view.emb y 0 : ℕ) = t.val % 64 * 1 + (y 0).val := by blk_simp [index1_4]
    have e1 : (((cfg1.win 4).blk t).view.emb y 1 : ℕ) = (y 1).val := by blk_simp [index1_4]
    have e2 : (((cfg1.win 4).blk t).view.emb y 2 : ℕ) = (y 2).val := by blk_simp [index1_4]
    have hq : ((((cfg1.win 4).blk t).view.emb y 0 : ℕ)) = t.val := by rw [e0]; omega
    show idxOf (codesOf (V c main_call0_v0) (rows256 (V c main_arg0) t.val) (V c main_arg1)) _ = _
    unfold idxAll
    rw [hq]
    refine congrArg (idxOf (F := F) _) (funext fun a => Fin.ext ?_)
    match a with
    | ⟨0, _⟩ => show (y 0).val = 0; omega
    | ⟨1, _⟩ => exact e1.symm
    | ⟨2, _⟩ => exact e2.symm

/-- and the counts in its third. -/
theorem arrAt1_5 (c : Dev nD) : (dat1 V c).arrAt 5 cfg1.N = cnts1 V c 64 :=
  (dat1 V c).arrAt_eq_of_after_last 5 (⟨63, by decide⟩ : Fin cfg1.N) (by decide +kernel) _ fun j => by
    refine congrArg (cnts1 V c 64) (funext fun a => Fin.ext ?_)
    match a with
    | ⟨0, _⟩ => rfl
    | ⟨1, _⟩ => rfl

end Cert.Proof

end
-- ==== Proof.Region3.lean ====
/-
  The final kernel's region: its body, the proof data of its region, and what the region leaves in the result array.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Base
public import Idealize.ShloMosaic.Lib.Pipeline.RegionArraysS
public import Idealize.ShloMosaic.Lib.Pipeline.ValueKit.Geometry
public import Idealize.ShloMosaic.Lib.Tactic

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F] [Named F]

local notation "𝕄" => MT nD τ sig Unit (Elt F) ℕ (UR sig nD τ) ℕ

/-- One block of the result from the statistics, the codebook's block, the running count's, the scattered sum's and the batch
    count's. -/
def finalStep (s : Vec F S2x256 .f32) (e : Vec F S512x256 .f32) (r : Vec F S512x1 .f32) (d : Vec F S512x256 .f32) (n : Vec F S512x1 .f32) :
    Vec F S512x256 .f32 :=
  k3_pay1 (window s ![0, 0] S1x256.size inb_S2x256_S1x256_0_0) (window s ![1, 0] S1x256.size inb_S2x256_S1x256_1_0) n d r e

set_option maxHeartbeats 1000000 in
/-- The final kernel's body leaves the block of the result. -/
theorem body3 (c : Dev nD) (i : grid3.Coords) (arg1 : Memref sig .tc .vmem S2x256 .f32) (harg1 : arg1.IsWhole) (arg2 : Memref sig .tc .vmem S512x256 .f32) (harg2 : arg2.IsWhole) (arg3 : Memref sig .tc .vmem S512x1 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x256 .f32) (harg6 : arg6.IsWhole)
    (s : Vec F S2x256 .f32) (e : Vec F S512x256 .f32) (r : Vec F S512x1 .f32) (d : Vec F S512x256 .f32) (n : Vec F S512x1 .f32) (o : Vec F S512x256 .f32) (E : Set ℕ) (K : PUnit → sProp 𝕄) :
    iprop(owns (c : Thread nD τ) arg1 fullShare s ∗ owns (c : Thread nD τ) arg2 fullShare e ∗ owns (c : Thread nD τ) arg3 fullShare r ∗ owns (c : Thread nD τ) arg4 fullShare d ∗ owns (c : Thread nD τ) arg5 fullShare n ∗ owns (c : Thread nD τ) arg6 fullShare o
        ∗ (iprop(owns (c : Thread nD τ) arg1 fullShare s ∗ owns (c : Thread nD τ) arg2 fullShare e ∗ owns (c : Thread nD τ) arg3 fullShare r ∗ owns (c : Thread nD τ) arg4 fullShare d ∗ owns (c : Thread nD τ) arg5 fullShare n ∗ owns (c : Thread nD τ) arg6 fullShare (finalStep s e r d n)) -∗ K ⟨⟩))
      ⊢ wp frame (wpE (defs₀ (F := F)) Variants.none c none) E (cc3__final_body i arg1 harg1 arg2 harg2 arg3 harg3 arg4 harg4 arg5 harg5 arg6 harg6) K := by
  simp only [cc3__final_body_eq_skeleton]; unfold cc3__final_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr; swap; · iexact H5
  ipureintro
  sl_unfold_run_names
  simp only [read_cons_put, readAt_win, readCov_win, View.writes_nil, harg1.read_unread, harg2.read_unread, harg3.read_unread, harg4.read_unread, harg5.read_unread, harg6.read_unread, window_full (s := S512x256), window_full (s := S512x1), put_full (s := S512x256) _ _ inb_S512x256_S512x256_0_0]
  rfl

/-- A block of 512 rows lies in the array. -/
theorem inb_block3 (w : ℕ) (n : ℕ) : ∀ a, (![512 * (n % 16), 0] : Fin 2 → ℕ) a + (![512, w] : Fin 2 → ℕ) a ≤ (![8192, w] : Fin 2 → ℕ) a := fun a => by
  match a with
  | ⟨0, _⟩ => show 512 * (n % 16) + 512 ≤ 8192; omega
  | ⟨1, _⟩ => show 0 + w ≤ w; omega

/-- The 512 rows from row `512 n` of an array of 8192 rows of 256. -/
def wide3 (X : Vec F S8192x256 .f32) (n : ℕ) : Vec F S512x256 .f32 := window X ![512 * (n % 16), 0] S512x256.size (inb_block3 256 n)

/-- The same of a column of 8192. -/
def thin3 (X : Vec F S8192x1 .f32) (n : ℕ) : Vec F S512x1 .f32 := window X ![512 * (n % 16), 0] S512x1.size (inb_block3 1 n)

/-- The result from the five arrays the final kernel reads. -/
def finalOf (s : Vec F S2x256 .f32) (e : Vec F S8192x256 .f32) (r : Vec F S8192x1 .f32) (d : Vec F S8192x256 .f32) (n : Vec F S8192x1 .f32) :
    Vec F S8192x256 .f32 := fun y =>
  finalStep s (wide3 e ((y 0).val / 512)) (thin3 r ((y 0).val / 512)) (wide3 d ((y 0).val / 512)) (thin3 n ((y 0).val / 512))
    (fun a => match a with | ⟨0, _⟩ => ⟨(y 0).val % 512, Nat.mod_lt _ (by decide)⟩ | ⟨1, _⟩ => y 1)

variable (V : Dev nD → Valuation τ sig (Elt F))

/-- Window `w`'s block at point `t` of the array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data of the region entered at `V`. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => finalStep (blk3 V c 0 t) (blk3 V c 1 t) (blk3 V c 2 t) (blk3 V c 3 t) (blk3 V c 4 t)
  Φ _ := Pipeline.scopedRest (Ix := Unit) (Name := ℕ) (U := UR sig nD τ) (Lvl := ℕ) (Val := Elt F) spec3 c
  q _ := fullShare
  owed _ := 0

/-- A step finds its block of the statistics. -/
theorem before3_0 (c : Dev nD) (t : Fin cfg3.N) (d) : (dat3 V c).before 0 t d = blk3 V c 0 t :=
  ((dat3 V c).before_in_eq_fetched 0 rfl (fun _ => rfl) (fun _ _ _ => rfl) (fun _ => rfl) t d).trans rfl
/-- A step finds its block of the codebook. -/
theorem before3_1 (c : Dev nD) (t : Fin cfg3.N) (d) : (dat3 V c).before 1 t d = blk3 V c 1 t :=
  ((dat3 V c).before_in_eq_fetched 1 rfl (fun _ => rfl) (fun _ _ _ => rfl) (fun _ => rfl) t d).trans rfl
/-- A step finds its block of the running numbers. -/
theorem before3_2 (c : Dev nD) (t : Fin cfg3.N) (d) : (dat3 V c).before 2 t d = blk3 V c 2 t :=
  ((dat3 V c).before_in_eq_fetched 2 rfl (fun _ => rfl) (fun _ _ _ => rfl) (fun _ => rfl) t d).trans rfl
/-- A step finds its block of the sums. -/
theorem before3_3 (c : Dev nD) (t : Fin cfg3.N) (d) : (dat3 V c).before 3 t d = blk3 V c 3 t :=
  ((dat3 V c).before_in_eq_fetched 3 rfl (fun _ => rfl) (fun _ _ _ => rfl) (fun _ => rfl) t d).trans rfl
/-- A step finds its block of the numbers of rows. -/
theorem before3_4 (c : Dev nD) (t : Fin cfg3.N) (d) : (dat3 V c).before 4 t d = blk3 V c 4 t :=
  ((dat3 V c).before_in_eq_fetched 4 rfl (fun _ => rfl) (fun _ _ _ => rfl) (fun _ => rfl) t d).trans rfl

/-- The body at a grid point. -/
theorem body_point3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d))
      ∗ (∃ d, owns (c : Thread nD τ) (win3_2.stage (cfg3.slots t 2)) fullShare ((dat3 V c).before 2 t d))
      ∗ (∃ d, owns (c : Thread nD τ) (win3_3.stage (cfg3.slots t 3)) fullShare ((dat3 V c).before 3 t d))
      ∗ (∃ d, owns (c : Thread nD τ) (win3_4.stage (cfg3.slots t 4)) fullShare ((dat3 V c).before 4 t d))
      ∗ (∃ d, owns (c : Thread nD τ) (win3_5.stage (cfg3.slots t 5)) fullShare ((dat3 V c).before 5 t d)))
    ⊢ wp frame (wpE (defs₀ (F := F)) Variants.none c none) Set.univ (bodyAt3 t) (fun _ => iprop((dat3 V c).Φ t.succ ∗ (dat3 V c).owesAt () t.succ
      ∗ owns (c : Thread nD τ) (win3_0.stage (cfg3.slots t 0)) fullShare ((dat3 V c).after 0 t)
      ∗ owns (c : Thread nD τ) (win3_1.stage (cfg3.slots t 1)) fullShare ((dat3 V c).after 1 t)
      ∗ owns (c : Thread nD τ) (win3_2.stage (cfg3.slots t 2)) fullShare ((dat3 V c).after 2 t)
      ∗ owns (c : Thread nD τ) (win3_3.stage (cfg3.slots t 3)) fullShare ((dat3 V c).after 3 t)
      ∗ owns (c : Thread nD τ) (win3_4.stage (cfg3.slots t 4)) fullShare ((dat3 V c).after 4 t)
      ∗ owns (c : Thread nD τ) (win3_5.stage (cfg3.slots t 5)) fullShare ((dat3 V c).after 5 t))) := by
  unfold bodyAt3
  rw [show (dat3 V c).Φ t.castSucc = (dat3 V c).Φ t.succ from rfl, show (dat3 V c).owesAt () t.succ = (dat3 V c).owesAt () t.castSucc from rfl]
  simp only [before3_0, before3_1, before3_2, before3_3, before3_4]
  iintro ⟨HΦ, Ho, ⟨%d0, H0⟩, ⟨%d1, H1⟩, ⟨%d2, H2⟩, ⟨%d3, H3⟩, ⟨%d4, H4⟩, ⟨%d5, H5⟩⟩
  iapply (body3 c (grid3.coords t) _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body at a point, its arguments written out. -/
theorem defs₀_row3 (t : Fin cfg3.N) : defs₀ (F := F) .tc cfg3.body (cfg3.bodyArgs t (cfg3.slots t)) = bodyAt3 t := by
  unfold defs₀; rw [Defs.onTc_tc]

/-- The body obligation of the final region. -/
theorem body_obligation3 (c : Dev nD) : BodyObligation (dat3 V c) (defs₀ (F := F)) Variants.none () Set.univ := fun t => by
  rw [bigSep_W3, bigSep_W3, defs₀_row3]
  exact triple_restated (body_point3 V c t) rfl .rfl fun _ => .rfl

/-- Where a step's block of the codebook lies. -/
theorem index3_1 : ∀ t : Fin cfg3.N, win3_1.index t = ![t.val % 16, 0] :=
  (by decide +kernel : ∀ t : Fin grid3.N, win3_1.index t = ![t.val % 16, 0])
/-- Where a step's block of the running numbers lies. -/
theorem index3_2 : ∀ t : Fin cfg3.N, win3_2.index t = ![t.val % 16, 0] :=
  (by decide +kernel : ∀ t : Fin grid3.N, win3_2.index t = ![t.val % 16, 0])
/-- Where a step's block of the sums lies. -/
theorem index3_3 : ∀ t : Fin cfg3.N, win3_3.index t = ![t.val % 16, 0] :=
  (by decide +kernel : ∀ t : Fin grid3.N, win3_3.index t = ![t.val % 16, 0])
/-- Where a step's block of the numbers of rows lies. -/
theorem index3_4 : ∀ t : Fin cfg3.N, win3_4.index t = ![t.val % 16, 0] :=
  (by decide +kernel : ∀ t : Fin grid3.N, win3_4.index t = ![t.val % 16, 0])
/-- Where a step's block of the result lies. -/
theorem index3_5 : ∀ t : Fin cfg3.N, win3_5.index t = ![t.val % 16, 0] :=
  (by decide +kernel : ∀ t : Fin grid3.N, win3_5.index t = ![t.val % 16, 0])
/-- Where a step's block of the statistics lies. -/
theorem index3_0 : ∀ t : Fin cfg3.N, win3_0.index t = ![0, 0] :=
  (by decide +kernel : ∀ t : Fin grid3.N, win3_0.index t = ![0, 0])

/-- A step's block of the statistics, by the step's number. -/
theorem blk3_0 (c : Dev nD) (t : Fin cfg3.N) : blk3 V c 0 t = (V c main_call0_v0 : Vec F S2x256 .f32) := by
  funext y
  refine congrArg (V c main_call0_v0) (funext fun a => Fin.ext ?_)
  match a with
  | ⟨0, _⟩ =>
    show (((cfg3.win 0).blk t).view.emb y 0 : ℕ) = (y 0).val
    blk_simp [index3_0]
  | ⟨1, _⟩ =>
    show (((cfg3.win 0).blk t).view.emb y 1 : ℕ) = (y 1).val
    blk_simp [index3_0]
/-- A step's block of the codebook, by the step's number. -/
theorem blk3_1 (c : Dev nD) (t : Fin cfg3.N) : blk3 V c 1 t = wide3 (V c main_arg1) t.val := by
  funext y
  refine congrArg (V c main_arg1) (funext fun a => Fin.ext ?_)
  match a with
  | ⟨0, _⟩ =>
    show (((cfg3.win 1).blk t).view.emb y 0 : ℕ) = 512 * (t.val % 16) + 1 * (y 0).val
    blk_simp [index3_1]
    show t.val % 16 * 512 + (y 0).val = _
    omega
  | ⟨1, _⟩ =>
    show (((cfg3.win 1).blk t).view.emb y 1 : ℕ) = 0 + 1 * (y 1).val
    blk_simp [index3_1]
/-- A step's block of the running numbers, by the step's number. -/
theorem blk3_2 (c : Dev nD) (t : Fin cfg3.N) : blk3 V c 2 t = thin3 (V c main_call0_v3) t.val := by
  funext y
  refine congrArg (V c main_call0_v3) (funext fun a => Fin.ext ?_)
  match a with
  | ⟨0, _⟩ =>
    show (((cfg3.win 2).blk t).view.emb y 0 : ℕ) = 512 * (t.val % 16) + 1 * (y 0).val
    blk_simp [index3_2]
    show t.val % 16 * 512 + (y 0).val = _
    omega
  | ⟨1, _⟩ =>
    show (((cfg3.win 2).blk t).view.emb y 1 : ℕ) = 0 + 1 * (y 1).val
    blk_simp [index3_2]
/-- A step's block of the sums, by the step's number. -/
theorem blk3_3 (c : Dev nD) (t : Fin cfg3.N) : blk3 V c 3 t = wide3 (V c main_call0_v2) t.val := by
  funext y
  refine congrArg (V c main_call0_v2) (funext fun a => Fin.ext ?_)
  match a with
  | ⟨0, _⟩ =>
    show (((cfg3.win 3).blk t).view.emb y 0 : ℕ) = 512 * (t.val % 16) + 1 * (y 0).val
    blk_simp [index3_3]
    show t.val % 16 * 512 + (y 0).val = _
    omega
  | ⟨1, _⟩ =>
    show (((cfg3.win 3).blk t).view.emb y 1 : ℕ) = 0 + 1 * (y 1).val
    blk_simp [index3_3]
/-- A step's block of the numbers of rows, by the step's number. -/
theorem blk3_4 (c : Dev nD) (t : Fin cfg3.N) : blk3 V c 4 t = thin3 (V c main_call0_v1_2) t.val := by
  funext y
  refine congrArg (V c main_call0_v1_2) (funext fun a => Fin.ext ?_)
  match a with
  | ⟨0, _⟩ =>
    show (((cfg3.win 4).blk t).view.emb y 0 : ℕ) = 512 * (t.val % 16) + 1 * (y 0).val
    blk_simp [index3_4]
    show t.val % 16 * 512 + (y 0).val = _
    omega
  | ⟨1, _⟩ =>
    show (((cfg3.win 4).blk t).view.emb y 1 : ℕ) = 0 + 1 * (y 1).val
    blk_simp [index3_4]

/-- The region leaves the result in its output array. -/
theorem arrAt3_5 (c : Dev nD) : (dat3 V c).arrAt 5 cfg3.N
    = finalOf (V c main_call0_v0) (V c main_arg1) (V c main_call0_v3) (V c main_call0_v2) (V c main_call0_v1_2) :=
  (dat3 V c).arrAt_eq_of_covers 5 _ (by decide +kernel) fun t hf y => by
    have ht : t.val < 16 := t.isLt
    have hy : (y 0).val < 512 := (y 0).isLt
    have e0 : (((cfg3.win 5).blk t).view.emb y 0 : ℕ) = t.val % 16 * 512 + (y 0).val := by blk_simp [index3_5]
    have e1 : (((cfg3.win 5).blk t).view.emb y 1 : ℕ) = (y 1).val := by blk_simp [index3_5]
    have hq : ((((cfg3.win 5).blk t).view.emb y 0 : ℕ)) / 512 = t.val := by rw [e0]; omega
    have hr : ((((cfg3.win 5).blk t).view.emb y 0 : ℕ)) % 512 = (y 0).val := by rw [e0]; omega
    show finalStep (blk3 V c 0 t) (blk3 V c 1 t) (blk3 V c 2 t) (blk3 V c 3 t) (blk3 V c 4 t) _ = _
    rw [blk3_0, blk3_1, blk3_2, blk3_3, blk3_4]
    unfold finalOf
    rw [hq]
    refine congrArg (finalStep _ _ _ _ _) (funext fun a => Fin.ext ?_)
    match a with
    | ⟨0, _⟩ => exact hr.symm
    | ⟨1, _⟩ => exact e1.symm

end Cert.Proof

end
-- ==== Proof.Run.lean ====
/-
  The whole program's run: the four regions and the reshape between them, chained from the launch memory to the end.
  What the result array holds at the end is a function of the three arguments, `kernelOut`.
-/
module

public import proofs.«01_k».proof.Proof.Gen.KernelIdeal.Launch
public import proofs.«01_k».proof.Proof.Gen.KernelIdeal.Regions
public import proofs.«01_k».proof.Proof.Region0
public import proofs.«01_k».proof.Proof.Region1
public import proofs.«01_k».proof.Proof.Region2
public import proofs.«01_k».proof.Proof.Region3

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg afterRegion Dat Cfg Window BodyObligation cellOf)
open Idealize.ShloMosaic.VecWindow (window put)

variable {F : FTy → Type} [FloatOps F] [Named F]

local notation "𝕄" => MT nD τ sig Unit (Elt F) ℕ (UR sig nD τ) ℕ

/-- What the whole program leaves in the result array, from its three arguments. -/
def kernelOut (X : Vec F S16384x256 .f32) (e : Vec F S8192x256 .f32) (r : Vec F S8192 .f32) : Vec F S8192x256 .f32 :=
  let s := k0_pay4 (sums0 X 64)
  finalOf s e (shapeCast S8192x1 r shapeCasts_S8192_S8192x1) (dwSums (idxAll s X e) (xnAll s X) 64) (cntsOf s X e 64)

variable (m : (ℓ : Loc nD τ sig) → Buf (Elt F) ℓ)

/-! ## The contents between the items -/

/-- The buffers at launch. -/
def at0 (c : Dev nD) : Valuation τ sig (Elt F) := fun b => m (c, b)
/-- After the statistics. -/
def at1 (c : Dev nD) : Valuation τ sig (Elt F) := afterRegion (dat0 (at0 m) c) (at0 m c)
/-- After the codes. -/
def at2 (c : Dev nD) : Valuation τ sig (Elt F) := afterRegion (dat1 (at1 m) c) (at1 m c)
/-- After the scattered sums. -/
def at3 (c : Dev nD) : Valuation τ sig (Elt F) := afterRegion (dat2 (at2 m) c) (at2 m c)
/-- After the reshape of the running count. -/
def at4 (c : Dev nD) : Valuation τ sig (Elt F) := StableHlo.after hostOps3 (at3 m c)
/-- After the final kernel. -/
def at5 (c : Dev nD) : Valuation τ sig (Elt F) := afterRegion (dat3 (at4 m) c) (at4 m c)

variable {m}

/-- Call 0 keeps what it does not write. -/
theorem at1_keeps (c : Dev nD) (r : Ref sig .tc) (h : ∀ w, Pipeline.arrRef spec0 w = r → (cfg0.win w).isOut = false) : at1 m c r = at0 m c r :=
  Pipeline.afterRegion_keeps (dat0 (at0 m) c) (at0 m c) launch0.win.arr_inj (fun _ => rfl) r h
/-- Call 1 keeps what it does not write. -/
theorem at2_keeps (c : Dev nD) (r : Ref sig .tc) (h : ∀ w, Pipeline.arrRef spec1 w = r → (cfg1.win w).isOut = false) : at2 m c r = at1 m c r :=
  Pipeline.afterRegion_keeps (dat1 (at1 m) c) (at1 m c) launch1.win.arr_inj (fun _ => rfl) r h
/-- Call 2 keeps what it does not write. -/
theorem at3_keeps (c : Dev nD) (r : Ref sig .tc) (h : ∀ w, Pipeline.arrRef spec2 w = r → (cfg2.win w).isOut = false) : at3 m c r = at2 m c r :=
  Pipeline.afterRegion_keeps (dat2 (at2 m) c) (at2 m c) launch2.win.arr_inj (fun _ => rfl) r h
/-- The host's reshape keeps what it does not write. -/
theorem at4_keeps (c : Dev nD) (r : Ref sig .tc) (h : r ∉ hostOps3_W) : at4 m c r = at3 m c r :=
  StableHlo.after_of_writes_sub hostOps3 _ hostOps3_writes h
/-- The last call keeps what it does not write. -/
theorem at5_keeps (c : Dev nD) (r : Ref sig .tc) (h : ∀ w, Pipeline.arrRef spec3 w = r → (cfg3.win w).isOut = false) : at5 m c r = at4 m c r :=
  Pipeline.afterRegion_keeps (dat3 (at4 m) c) (at4 m c) launch3.win.arr_inj (fun _ => rfl) r h

/-- No item writes a buffer that is no output of a region and not the reshape's. -/
theorem at5_arg (c : Dev nD) (r : Ref sig .tc) (h0 : ∀ w, Pipeline.arrRef spec0 w = r → (cfg0.win w).isOut = false)
    (h1 : ∀ w, Pipeline.arrRef spec1 w = r → (cfg1.win w).isOut = false) (h2 : ∀ w, Pipeline.arrRef spec2 w = r → (cfg2.win w).isOut = false)
    (h3 : r ∉ hostOps3_W) (h4 : ∀ w, Pipeline.arrRef spec3 w = r → (cfg3.win w).isOut = false) : at5 m c r = at0 m c r :=
  (at5_keeps c r h4).trans ((at4_keeps c r h3).trans ((at3_keeps c r h2).trans ((at2_keeps c r h1).trans (at1_keeps c r h0))))

/-- The rows are kept to the end. -/
theorem at5_arg0 (c : Dev nD) : at5 m c main_arg0 = m ((c : Thread nD τ).loc main_arg0) :=
  at5_arg c main_arg0 (by decide) (by decide) (by decide) (by decide) (by decide)
/-- The codebook is kept to the end. -/
theorem at5_arg1 (c : Dev nD) : at5 m c main_arg1 = m ((c : Thread nD τ).loc main_arg1) :=
  at5_arg c main_arg1 (by decide) (by decide) (by decide) (by decide) (by decide)
/-- The running numbers are kept to the end. -/
theorem at5_arg2 (c : Dev nD) : at5 m c main_arg2 = m ((c : Thread nD τ).loc main_arg2) :=
  at5_arg c main_arg2 (by decide) (by decide) (by decide) (by decide) (by decide)

/-! ## The result -/

/-- The first call keeps the rows. -/
theorem at1_arg0 (c : Dev nD) : at1 m c main_arg0 = at0 m c main_arg0 := at1_keeps c main_arg0 (by decide)
/-- The first call keeps the codebook. -/
theorem at1_arg1 (c : Dev nD) : at1 m c main_arg1 = at0 m c main_arg1 := at1_keeps c main_arg1 (by decide)
/-- The statistics' array after the first region. -/
theorem at1_stats (c : Dev nD) : at1 m c main_call0_v0 = k0_pay4 (sums0 (at0 m c main_arg0) 64) :=
  (Pipeline.afterRegion_arr (dat0 (at0 m) c) (at0 m c) launch0.win.arr_inj 1).trans (arrAt0_1 (at0 m) c)
/-- The normalised rows after the second region. -/
theorem at2_rows (c : Dev nD) : at2 m c main_call0_v1_0 = xnAll (at1 m c main_call0_v0) (at1 m c main_arg0) :=
  (Pipeline.afterRegion_arr (dat1 (at1 m) c) (at1 m c) launch1.win.arr_inj 3).trans (arrAt1_3 (at1 m) c)
/-- The codes after the second region. -/
theorem at2_codes (c : Dev nD) : at2 m c main_call0_v1_1 = idxAll (at1 m c main_call0_v0) (at1 m c main_arg0) (at1 m c main_arg1) :=
  (Pipeline.afterRegion_arr (dat1 (at1 m) c) (at1 m c) launch1.win.arr_inj 4).trans (arrAt1_4 (at1 m) c)
/-- The counts after the second region. -/
theorem at2_counts (c : Dev nD) : at2 m c main_call0_v1_2 = cntsOf (at1 m c main_call0_v0) (at1 m c main_arg0) (at1 m c main_arg1) 64 :=
  (Pipeline.afterRegion_arr (dat1 (at1 m) c) (at1 m c) launch1.win.arr_inj 5).trans (arrAt1_5 (at1 m) c)
/-- The scattered sums after the third region. -/
theorem at3_sums (c : Dev nD) : at3 m c main_call0_v2 = dwSums (at2 m c main_call0_v1_1) (at2 m c main_call0_v1_0) 64 :=
  (Pipeline.afterRegion_arr (dat2 (at2 m) c) (at2 m c) launch2.win.arr_inj 2).trans (arrAt2_2 (at2 m) c)
/-- The running count as a column. -/
theorem at4_run (c : Dev nD) : at4 m c main_call0_v3 = shapeCast S8192x1 (at3 m c main_arg2) shapeCasts_S8192_S8192x1 := by
  unfold at4
  simp only [hostOps3, StableHlo.after_cons, StableHlo.after_nil]
  exact StableHlo.reshape_result main_arg2 main_call0_v3 rfl shapeCasts_S8192_S8192x1 _ _ (at3 m c)

/-- The result array at the end, from the arguments at launch. -/
theorem at5_out (c : Dev nD) : at5 m c main_v0 = kernelOut (at0 m c main_arg0) (at0 m c main_arg1) (at0 m c main_arg2) := by
  refine ((Pipeline.afterRegion_arr (dat3 (at4 m) c) (at4 m c) launch3.win.arr_inj 5).trans (arrAt3_5 (at4 m) c)).trans ?_
  rw [at4_run, at4_keeps c main_call0_v0 (by decide), at3_keeps c main_call0_v0 (by decide), at2_keeps c main_call0_v0 (by decide),
    at4_keeps c main_arg1 (by decide), at3_keeps c main_arg1 (by decide), at2_keeps c main_arg1 (by decide),
    at3_keeps c main_arg2 (by decide), at2_keeps c main_arg2 (by decide), at1_keeps c main_arg2 (by decide),
    at4_keeps c main_call0_v2 (by decide), at3_sums, at4_keeps c main_call0_v1_2 (by decide), at3_keeps c main_call0_v1_2 (by decide),
    at2_counts, at2_rows, at2_codes, at1_stats, at1_arg0, at1_arg1]
  rfl

variable (m)

/-! ## The items as segments -/

/-- The proof data of the four regions, each entered at what the items before it leave. -/
def datas : (p : Fin 4) → (c : Dev nD) → Dat τ (Elt F) Unit ℕ (UR sig nD τ) ℕ (cfgs p) c
  | ⟨0, _⟩ => fun c => dat0 (at0 m) c
  | ⟨1, _⟩ => fun c => dat1 (at1 m) c
  | ⟨2, _⟩ => fun c => dat2 (at2 m) c
  | ⟨3, _⟩ => fun c => dat3 (at4 m) c

/-- One level, at the TensorCores' semaphores. -/
def levels : GSem nD τ sig → Finset Unit := fun g => if g.1.2 = .tc then {()} else ∅

/-- What rides beside the buffers: the core owes nothing. -/
abbrev rest (c : Dev nD) : sProp 𝕄 := iprop(∃ W, owes (c : Thread nD τ) (0 : CellTallies nD τ sig Unit) W)

/-- Every wait on a staging buffer is allowed: nothing is owed. -/
theorem cut (p : Fin 4) : Pipeline.LevelCut (pcfgs (F := F)) adm () levels (fun _ _ => (0 : ℕ)) p (fun _ => 0) (fun _ => 0) where
  hι _ _ _ := by unfold levels; rw [if_pos rfl]; exact Finset.mem_singleton_self _
  hιb _ _ _ := le_rfl
  hD _ _ _ h := absurd h (lt_irrefl _)

/-- What the last call's invariant starts from. -/
theorem in3 (V : Dev nD → Valuation τ sig (Elt F)) (c : Dev nD) :
    iprop(Pipeline.scopedRest (Ix := Unit) (Name := ℕ) (U := UR sig nD τ) (Lvl := ℕ) (Val := Elt F) spec3 c ∗ emp) ⊢ (dat3 V c).Φ 0 := by
  rw [show (dat3 V c).Φ 0 = Pipeline.scopedRest spec3 c from rfl]
  iintro ⟨H, -⟩; iexact H

/-- What the last call's invariant ends in. -/
theorem out3 (V : Dev nD → Valuation τ sig (Elt F)) (c : Dev nD) :
    (dat3 V c).Φ (Fin.last cfg3.N) ⊢ iprop(Pipeline.scopedRest (Ix := Unit) (Name := ℕ) (U := UR sig nD τ) (Lvl := ℕ) (Val := Elt F) spec3 c ∗ emp) := by
  rw [show (dat3 V c).Φ (Fin.last cfg3.N) = Pipeline.scopedRest spec3 c from rfl]
  iintro H; isplitl [H]; · iexact H
  iempintro

section
set_option backward.isDefEq.respectTransparency.types false

/-- The region's arrays are no scoped buffers. -/
theorem arrs0 : Pipeline.arrRefs (τ := τ) (pcfgs (F := F) 0).spec ⊆ Pipeline.ucRefs τ sig :=
  Pipeline.arrRefs_sub_ucRefs _ (show ∀ w, (Pipeline.arrRef spec0 w).isScoped = false from by decide)

/-- Region 0 as a segment of the program. -/
def reg0 : RegionSeg (pcfgs (F := F)) adm (datas m) () defs₀ Variants.none levels (fun _ _ => (0 : ℕ)) 0 :=
  RegionSeg.ofHeldIn (pcfgs (F := F)) adm (datas m) () defs₀ Variants.none levels (fun _ _ => (0 : ℕ)) 0 (fun _ => 0)
    (Pipeline.ucRefs τ sig) (fun _ => iprop(emp)) (fun _ => iprop(emp)) launch0.toP rfl (fun c => (body_obligation0 (at0 m) c).loose)
    (fun _ _ => rfl) (fun _ => rfl) (fun c => (dat0 (at0 m) c).share_full fun _ => rfl) (fun c => in0 (at0 m) c) (fun c => out0 (at0 m) c)
    (fun _ => 0) (cut 0) (fun _ => iprop(emp)) (fun c => at0 m c) (fun _ _ => rfl)

/-- Its entry. -/
theorem reg0_pre (c : Dev nD) : iprop(StableHlo.held (c : Thread nD τ) (Pipeline.ucRefs τ sig) (at0 m c) ∗ rest (F := F) c) ⊢ (reg0 m).pre c := by
  refine BIBase.Entails.trans ?_ (RegionSeg.ofHeldIn_pre (arrs0 (F := F)) c)
  iintro ⟨Hh, HO⟩
  isplitl [Hh]; · iexact Hh
  isplitl [HO]; · iexact HO
  isplitr <;> iempintro

/-- Its exit. -/
theorem reg0_post (c : Dev nD) : (reg0 m).post c ⊢ iprop(StableHlo.held (c : Thread nD τ) (Pipeline.ucRefs τ sig) (at1 m c) ∗ rest (F := F) c) := by
  refine BIBase.Entails.trans (RegionSeg.ofHeldIn_post (arrs0 (F := F)) c) ?_
  iintro ⟨Hh, HO, -, -⟩
  isplitl [Hh]; · iexact Hh
  iexact HO

/-- The region's arrays are no scoped buffers. -/
theorem arrs1 : Pipeline.arrRefs (τ := τ) (pcfgs (F := F) 1).spec ⊆ Pipeline.ucRefs τ sig :=
  Pipeline.arrRefs_sub_ucRefs _ (show ∀ w, (Pipeline.arrRef spec1 w).isScoped = false from by decide)

/-- Region 1 as a segment of the program. -/
def reg1 : RegionSeg (pcfgs (F := F)) adm (datas m) () defs₀ Variants.none levels (fun _ _ => (0 : ℕ)) 1 :=
  RegionSeg.ofHeldIn (pcfgs (F := F)) adm (datas m) () defs₀ Variants.none levels (fun _ _ => (0 : ℕ)) 1 (fun _ => 0)
    (Pipeline.ucRefs τ sig) (fun _ => iprop(emp)) (fun _ => iprop(emp)) launch1.toP rfl (fun c => (body_obligation1 (at1 m) c).loose)
    (fun _ _ => rfl) (fun _ => rfl) (fun c => (dat1 (at1 m) c).share_full fun _ => rfl) (fun c => in1 (at1 m) c) (fun c => out1 (at1 m) c)
    (fun _ => 0) (cut 1) (fun _ => iprop(emp)) (fun c => at1 m c) (fun _ _ => rfl)

/-- Its entry. -/
theorem reg1_pre (c : Dev nD) : iprop(StableHlo.held (c : Thread nD τ) (Pipeline.ucRefs τ sig) (at1 m c) ∗ rest (F := F) c) ⊢ (reg1 m).pre c := by
  refine BIBase.Entails.trans ?_ (RegionSeg.ofHeldIn_pre (arrs1 (F := F)) c)
  iintro ⟨Hh, HO⟩
  isplitl [Hh]; · iexact Hh
  isplitl [HO]; · iexact HO
  isplitr <;> iempintro

/-- Its exit. -/
theorem reg1_post (c : Dev nD) : (reg1 m).post c ⊢ iprop(StableHlo.held (c : Thread nD τ) (Pipeline.ucRefs τ sig) (at2 m c) ∗ rest (F := F) c) := by
  refine BIBase.Entails.trans (RegionSeg.ofHeldIn_post (arrs1 (F := F)) c) ?_
  iintro ⟨Hh, HO, -, -⟩
  isplitl [Hh]; · iexact Hh
  iexact HO

/-- The region's arrays are no scoped buffers. -/
theorem arrs2 : Pipeline.arrRefs (τ := τ) (pcfgs (F := F) 2).spec ⊆ Pipeline.ucRefs τ sig :=
  Pipeline.arrRefs_sub_ucRefs _ (show ∀ w, (Pipeline.arrRef spec2 w).isScoped = false from by decide)

/-- Region 2 as a segment of the program. -/
def reg2 : RegionSeg (pcfgs (F := F)) adm (datas m) () defs₀ Variants.none levels (fun _ _ => (0 : ℕ)) 2 :=
  RegionSeg.ofHeldIn (pcfgs (F := F)) adm (datas m) () defs₀ Variants.none levels (fun _ _ => (0 : ℕ)) 2 (fun _ => 0)
    (Pipeline.ucRefs τ sig) (fun _ => iprop(emp)) (fun _ => iprop(emp)) launch2.toP rfl (fun c => (body_obligation2 (at2 m) c).loose)
    (fun _ _ => rfl) (fun _ => rfl) (fun c => (dat2 (at2 m) c).share_full fun _ => rfl) (fun c => in2 (at2 m) c) (fun c => out2 (at2 m) c)
    (fun _ => 0) (cut 2) (fun _ => iprop(emp)) (fun c => at2 m c) (fun _ _ => rfl)

/-- Its entry. -/
theorem reg2_pre (c : Dev nD) : iprop(StableHlo.held (c : Thread nD τ) (Pipeline.ucRefs τ sig) (at2 m c) ∗ rest (F := F) c) ⊢ (reg2 m).pre c := by
  refine BIBase.Entails.trans ?_ (RegionSeg.ofHeldIn_pre (arrs2 (F := F)) c)
  iintro ⟨Hh, HO⟩
  isplitl [Hh]; · iexact Hh
  isplitl [HO]; · iexact HO
  isplitr <;> iempintro

/-- Its exit. -/
theorem reg2_post (c : Dev nD) : (reg2 m).post c ⊢ iprop(StableHlo.held (c : Thread nD τ) (Pipeline.ucRefs τ sig) (at3 m c) ∗ rest (F := F) c) := by
  refine BIBase.Entails.trans (RegionSeg.ofHeldIn_post (arrs2 (F := F)) c) ?_
  iintro ⟨Hh, HO, -, -⟩
  isplitl [Hh]; · iexact Hh
  iexact HO

/-- The region's arrays are no scoped buffers. -/
theorem arrs3 : Pipeline.arrRefs (τ := τ) (pcfgs (F := F) 3).spec ⊆ Pipeline.ucRefs τ sig :=
  Pipeline.arrRefs_sub_ucRefs _ (show ∀ w, (Pipeline.arrRef spec3 w).isScoped = false from by decide)

/-- Region 3 as a segment of the program. -/
def reg3 : RegionSeg (pcfgs (F := F)) adm (datas m) () defs₀ Variants.none levels (fun _ _ => (0 : ℕ)) 3 :=
  RegionSeg.ofHeldIn (pcfgs (F := F)) adm (datas m) () defs₀ Variants.none levels (fun _ _ => (0 : ℕ)) 3 (fun _ => 0)
    (Pipeline.ucRefs τ sig) (fun _ => iprop(emp)) (fun _ => iprop(emp)) launch3.toP rfl (fun c => (body_obligation3 (at4 m) c).loose)
    (fun _ _ => rfl) (fun _ => rfl) (fun c => (dat3 (at4 m) c).share_full fun _ => rfl) (fun c => in3 (at4 m) c) (fun c => out3 (at4 m) c)
    (fun _ => 0) (cut 3) (fun _ => iprop(emp)) (fun c => at4 m c) (fun _ _ => rfl)

/-- Its entry. -/
theorem reg3_pre (c : Dev nD) : iprop(StableHlo.held (c : Thread nD τ) (Pipeline.ucRefs τ sig) (at4 m c) ∗ rest (F := F) c) ⊢ (reg3 m).pre c := by
  refine BIBase.Entails.trans ?_ (RegionSeg.ofHeldIn_pre (arrs3 (F := F)) c)
  iintro ⟨Hh, HO⟩
  isplitl [Hh]; · iexact Hh
  isplitl [HO]; · iexact HO
  isplitr <;> iempintro

/-- Its exit. -/
theorem reg3_post (c : Dev nD) : (reg3 m).post c ⊢ iprop(StableHlo.held (c : Thread nD τ) (Pipeline.ucRefs τ sig) (at5 m c) ∗ rest (F := F) c) := by
  refine BIBase.Entails.trans (RegionSeg.ofHeldIn_post (arrs3 (F := F)) c) ?_
  iintro ⟨Hh, HO, -, -⟩
  isplitl [Hh]; · iexact Hh
  iexact HO

end

/-- The reshape as a segment of the program. -/
def host3 : HostSeg (Ix := Unit) (Name := ℕ) (U := UR sig nD τ) (Lvl := ℕ) (pcfgs (F := F)) defs₀ Variants.none levels (fun _ _ => (0 : ℕ)) :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (at3 m) rest

/-- The program as its list of segments. -/
abbrev items : List (Seg (pcfgs (F := F)) adm (datas m) () defs₀ Variants.none levels (fun _ _ => (0 : ℕ))) :=
  [.region (reg0 m), .region (reg1 m), .region (reg2 m), .host (host3 m), .region (reg3 m)]

set_option backward.isDefEq.respectTransparency.types false in
/-- Every run from memory `m` ends with the result array at `kernelOut` of the arguments, the arguments as launched
    and every semaphore at zero. -/
theorem run (ρ : Dev nD → PrngReg) :
    θ_run defs (onTc (τ := τ) (main (F := F))) ⟨m, fun _ => 0, ρ⟩ (fun r => (∀ c : Dev nD,
      (r.2.mem ((c.tc : Thread nD τ).loc main_v0) = kernelOut (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (datas m) () cellOf_inj emb₁ defs₀ Variants.none levels (fun _ _ => (0 : ℕ)) m ρ main
    (fun _ => items m)
    (fun c Q => by
      rewrite [main_chain c, Seg.run_eq_chain, show (items m).map Seg.prog = [Prog.lift (.customCall (Pipeline.entry 0) ()),
        Prog.lift (.customCall (Pipeline.entry 1) ()), Prog.lift (.customCall (Pipeline.entry 2) ()), StableHlo.seq hostOps3,
        Prog.lift (.customCall (Pipeline.entry 3) ())] from rfl]
      exact .rfl)
    (fun c => by simp only [items, Seg.pipes_host, Seg.pipes_region, Seg.pipes_nil]; decide) 0
    (fun g hg => by unfold levels; rw [if_neg hg]) (fun _ => iprop(emp))
    (initOf (Pipeline.cells cfgs cellOf_inj) (Pipeline.launchToks cfgs cellOf_inj)) ?_
    (T₀ := fun c => iprop(StableHlo.held (c : Thread nD τ) (Pipeline.ucRefs τ sig) (at0 m c) ∗ rest c))
    (Tₙ := fun c => StableHlo.held (c : Thread nD τ) (Pipeline.ucRefs τ sig) (at5 m c))
    (hch := fun c => ⟨reg0_pre m c, (reg0_post m c).trans (reg1_pre m c), (reg1_post m c).trans (reg2_pre m c), reg2_post m c,
      reg3_pre m c, reg3_post m c⟩)
    (hinit := ?_)
    (QY := fun c s => (s.mem ((c.tc : Thread nD τ).loc main_v0) = kernelOut (m ((c.tc : Thread nD τ).loc main_arg0)) (m ((c.tc : Thread nD τ).loc main_arg1)) (m ((c.tc : Thread nD τ).loc main_arg2)))
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach levels (fun _ _ => (0 : ℕ)) fun c => ?_
    rw [show unscopedBufs c (fun b => m ((c : Thread nD τ).loc b)) = StableHlo.held (c : Thread nD τ) (Pipeline.ucRefs τ sig) (at0 m c) from
      Pipeline.unscopedBufs_held (Ix := Unit) (Name := ℕ) (U := UR sig nD τ) (Lvl := ℕ) c (at0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (at5 m c) s') $$ [Hh HSI]
    · isplitl [Hh] <;> iassumption
    icases Hr with ⟨%h, HSI⟩
    imodintro
    isplitr
    · ipureintro
      exact ⟨(h (Proc.devRef .tc main_v0) (Finset.mem_filter.mpr ⟨StableHlo.devRef_mem_tcRefs main_v0, by decide⟩)).trans (at5_out c),
        (h (Proc.devRef .tc main_arg0) (Finset.mem_filter.mpr ⟨StableHlo.devRef_mem_tcRefs main_arg0, by decide⟩)).trans (at5_arg0 c),
        (h (Proc.devRef .tc main_arg1) (Finset.mem_filter.mpr ⟨StableHlo.devRef_mem_tcRefs main_arg1, by decide⟩)).trans (at5_arg1 c),
        (h (Proc.devRef .tc main_arg2) (Finset.mem_filter.mpr ⟨StableHlo.devRef_mem_tcRefs main_arg2, by decide⟩)).trans (at5_arg2 c)⟩
    · iexact HSI

end Cert.Proof

end
-- ==== Proof.RefRun.lean ====
/-
  The reference's run: its operations as one line of four parts, and what each part leaves as a function of what it reads.
-/
module

public import proofs.«01_k».proof.Proof.Gen.ReferenceIdeal
public import Idealize.ShloMosaic.Lib.StableHlo.Run
public import Idealize.ShloMosaic.Lib.StableHlo.RunRead

@[expose] public section

set_option maxRecDepth 16384

noncomputable section

namespace Cert.Proof.Ref

open Cert.ReferenceIdeal
open Cert.ReferenceIdeal.Facts₀
open Idealize.ShloMosaic Idealize.ShloMosaic.TcCoe Idealize.SL.Sem
open Idealize.ShloMosaic.StableHlo (after seq tcRefs)

variable {F : FTy → Type} [FloatOps F]

/-! ## The operations -/

/-- Part 0: the mean, the variance, the normalised rows and the variance's unbiased form. -/
abbrev ops0 : List (HloOp τ sig (Elt F)) :=
  [ StableHlo.nullary main_cst (constant S_ .f32 0x00000000#32),
    StableHlo.binary main_arg0 main_cst main_v0 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    StableHlo.nullary main_cst_0 (constant S_ .f32 0x46800000#32),
    StableHlo.unary main_cst_0 main_v1 (broadcastInDim S256 ![] bcast_S_S256 : (⟨S_, .f32⟩ : BufTy).Contents (Elt F) → (⟨S256, .f32⟩ : BufTy).Contents (Elt F)),
    StableHlo.binary main_v0 main_v1 main_v2 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S16384x256_S256_d0 h_S_),
    StableHlo.TRef.unary main_call0.v0 main_call0.v1 (broadcastInDim S1x256 ![1] bcast_S256_S1x256_1),
    StableHlo.TRef.nullary main_call0.cst_0 (constant S_ .f32 0x46800000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S16384x256 ![0, 1] bcast_S1x256_S16384x256_0_1),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v2 main_v4 (broadcastInDim S1x256 ![1] bcast_S256_S1x256_1 : (⟨S256, .f32⟩ : BufTy).Contents (Elt F) → (⟨S1x256, .f32⟩ : BufTy).Contents (Elt F)),
    StableHlo.unary main_v4 main_v5 (broadcastInDim S16384x256 ![0, 1] bcast_S1x256_S16384x256_0_1 : (⟨S1x256, .f32⟩ : BufTy).Contents (Elt F) → (⟨S16384x256, .f32⟩ : BufTy).Contents (Elt F)),
    StableHlo.binary main_arg0 main_v5 main_v6 (subf : (⟨S16384x256, .f32⟩ : BufTy).Contents (Elt F) → (⟨S16384x256, .f32⟩ : BufTy).Contents (Elt F) → (⟨S16384x256, .f32⟩ : BufTy).Contents (Elt F)),
    StableHlo.nullary main_cst_1 (constant S_ .f32 0x3727C5AC#32),
    StableHlo.unary main_cst_1 main_v7 (broadcastInDim S256 ![] bcast_S_S256 : (⟨S_, .f32⟩ : BufTy).Contents (Elt F) → (⟨S256, .f32⟩ : BufTy).Contents (Elt F)),
    StableHlo.binary main_v3 main_v7 main_v8 (addf : (⟨S256, .f32⟩ : BufTy).Contents (Elt F) → (⟨S256, .f32⟩ : BufTy).Contents (Elt F) → (⟨S256, .f32⟩ : BufTy).Contents (Elt F)),
    StableHlo.unary main_v8 main_v9 (Host.sqrt : (⟨S256, .f32⟩ : BufTy).Contents (Elt F) → (⟨S256, .f32⟩ : BufTy).Contents (Elt F)),
    StableHlo.unary main_v9 main_v10 (broadcastInDim S1x256 ![1] bcast_S256_S1x256_1 : (⟨S256, .f32⟩ : BufTy).Contents (Elt F) → (⟨S1x256, .f32⟩ : BufTy).Contents (Elt F)),
    StableHlo.unary main_v10 main_v11 (broadcastInDim S16384x256 ![0, 1] bcast_S1x256_S16384x256_0_1 : (⟨S1x256, .f32⟩ : BufTy).Contents (Elt F) → (⟨S16384x256, .f32⟩ : BufTy).Contents (Elt F)),
    StableHlo.binary main_v6 main_v11 main_v12 (Host.divf : (⟨S16384x256, .f32⟩ : BufTy).Contents (Elt F) → (⟨S16384x256, .f32⟩ : BufTy).Contents (Elt F) → (⟨S16384x256, .f32⟩ : BufTy).Contents (Elt F)),
    StableHlo.nullary main_cst_2 (constant S_ .f32 0x3F800200#32),
    StableHlo.unary main_cst_2 main_v13 (broadcastInDim S256 ![] bcast_S_S256 : (⟨S_, .f32⟩ : BufTy).Contents (Elt F) → (⟨S256, .f32⟩ : BufTy).Contents (Elt F)),
    StableHlo.binary main_v3 main_v13 main_v14 (mulf : (⟨S256, .f32⟩ : BufTy).Contents (Elt F) → (⟨S256, .f32⟩ : BufTy).Contents (Elt F) → (⟨S256, .f32⟩ : BufTy).Contents (Elt F)) ]

/-- Part 1: the distances and the nearest code of each row. -/
abbrev ops1 : List (HloOp τ sig (Elt F)) :=
  [ StableHlo.binary main_v12 main_v12 main_v15 (mulf : (⟨S16384x256, .f32⟩ : BufTy).Contents (Elt F) → (⟨S16384x256, .f32⟩ : BufTy).Contents (Elt F) → (⟨S16384x256, .f32⟩ : BufTy).Contents (Elt F)),
    StableHlo.nullary main_cst_3 (constant S_ .f32 0x00000000#32),
    StableHlo.binary main_v15 main_cst_3 main_v16 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v16 main_v17 (broadcastInDim S16384x1 ![0] bcast_S16384_S16384x1_0 : (⟨S16384, .f32⟩ : BufTy).Contents (Elt F) → (⟨S16384x1, .f32⟩ : BufTy).Contents (Elt F)),
    StableHlo.binary main_arg1 main_arg1 main_v18 (mulf : (⟨S8192x256, .f32⟩ : BufTy).Contents (Elt F) → (⟨S8192x256, .f32⟩ : BufTy).Contents (Elt F) → (⟨S8192x256, .f32⟩ : BufTy).Contents (Elt F)),
    StableHlo.nullary main_cst_4 (constant S_ .f32 0x00000000#32),
    StableHlo.binary main_v18 main_cst_4 main_v19 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v19 main_v20 (broadcastInDim S1x8192 ![1] bcast_S8192_S1x8192_1 : (⟨S8192, .f32⟩ : BufTy).Contents (Elt F) → (⟨S1x8192, .f32⟩ : BufTy).Contents (Elt F)),
    StableHlo.unary main_v17 main_v21 (broadcastInDim S16384x8192 ![0, 1] bcast_S16384x1_S16384x8192_0_1 : (⟨S16384x1, .f32⟩ : BufTy).Contents (Elt F) → (⟨S16384x8192, .f32⟩ : BufTy).Contents (Elt F)),
    StableHlo.unary main_v20 main_v22 (broadcastInDim S16384x8192 ![0, 1] bcast_S1x8192_S16384x8192_0_1 : (⟨S1x8192, .f32⟩ : BufTy).Contents (Elt F) → (⟨S16384x8192, .f32⟩ : BufTy).Contents (Elt F)),
    StableHlo.binary main_v21 main_v22 main_v23 (addf : (⟨S16384x8192, .f32⟩ : BufTy).Contents (Elt F) → (⟨S16384x8192, .f32⟩ : BufTy).Contents (Elt F) → (⟨S16384x8192, .f32⟩ : BufTy).Contents (Elt F)),
    StableHlo.unary main_arg1 main_v24 ((transpose S256x8192 [1, 0] · transposes_S8192x256_S256x8192_1_0) : (⟨S8192x256, .f32⟩ : BufTy).Contents (Elt F) → (⟨S256x8192, .f32⟩ : BufTy).Contents (Elt F)),
    StableHlo.binary main_v12 main_v24 main_v25 ((fun l r => Host.dotGeneral dot_S16384x256_S256x8192_S16384x8192_1_0_0_1_n_n none l r) : (⟨S16384x256, .f32⟩ : BufTy).Contents (Elt F) → (⟨S256x8192, .f32⟩ : BufTy).Contents (Elt F) → (⟨S16384x8192, .f32⟩ : BufTy).Contents (Elt F)),
    StableHlo.nullary main_cst_5 (constant S_ .f32 0x40000000#32),
    StableHlo.unary main_cst_5 main_v26 (broadcastInDim S16384x8192 ![] bcast_S_S16384x8192 : (⟨S_, .f32⟩ : BufTy).Contents (Elt F) → (⟨S16384x8192, .f32⟩ : BufTy).Contents (Elt F)),
    StableHlo.binary main_v26 main_v25 main_v27 (mulf : (⟨S16384x8192, .f32⟩ : BufTy).Contents (Elt F) → (⟨S16384x8192, .f32⟩ : BufTy).Contents (Elt F) → (⟨S16384x8192, .f32⟩ : BufTy).Contents (Elt F)),
    StableHlo.binary main_v23 main_v27 main_v28 (subf : (⟨S16384x8192, .f32⟩ : BufTy).Contents (Elt F) → (⟨S16384x8192, .f32⟩ : BufTy).Contents (Elt F) → (⟨S16384x8192, .f32⟩ : BufTy).Contents (Elt F)),
    StableHlo.TRef.nullary main_call1.v0 (iotaInDim S16384x8192 32 1),
    StableHlo.TRef.nullary main_call1.cst (constant S_ .f32 0x7F800000#32),
    StableHlo.TRef.nullary main_call1.c (constantI S_ 32 0#32),
    StableHlo.TRef.quaternary (.of main_v28) main_call1.v0 main_call1.cst main_call1.c main_call1.v1_0 (fun x y u v j => (Host.argReduce reducer_argmin_f32_i32 x y u v reducesTo_S16384x8192_S16384_d1 h_S_ j).1),
    StableHlo.TRef.quaternary (.of main_v28) main_call1.v0 main_call1.cst main_call1.c main_call1.v1_1 (fun x y u v j => (Host.argReduce reducer_argmin_f32_i32 x y u v reducesTo_S16384x8192_S16384_d1 h_S_ j).2) ]

/-- Part 2: the sums of the rows of each code, and their number. -/
abbrev ops2 : List (HloOp τ sig (Elt F)) :=
  [ StableHlo.nullary main_cst_6 (constant S_ .f32 0x00000000#32),
    StableHlo.unary main_cst_6 main_v30 (broadcastInDim S8192x256 ![] bcast_S_S8192x256 : (⟨S_, .f32⟩ : BufTy).Contents (Elt F) → (⟨S8192x256, .f32⟩ : BufTy).Contents (Elt F)),
    StableHlo.unary main_v29 main_v31 (broadcastInDim S16384x1 ![0] bcast_S16384_S16384x1_0 : (⟨S16384, .i32⟩ : BufTy).Contents (Elt F) → (⟨S16384x1, .i32⟩ : BufTy).Contents (Elt F)),
    StableHlo.ternary main_v30 main_v31 main_v12 main_v32 ((fun x i u => Host.scatterAdd scatter_S8192x256_S16384x1_S16384x256_1_0_0_1 x i u) : (⟨S8192x256, .f32⟩ : BufTy).Contents (Elt F) → (⟨S16384x1, .i32⟩ : BufTy).Contents (Elt F) → (⟨S16384x256, .f32⟩ : BufTy).Contents (Elt F) → (⟨S8192x256, .f32⟩ : BufTy).Contents (Elt F)),
    StableHlo.nullary main_c_7 (constantI S_ 32 0#32),
    StableHlo.unary main_c_7 main_v33 (broadcastInDim S8192 ![] bcast_S_S8192 : (⟨S_, .i32⟩ : BufTy).Contents (Elt F) → (⟨S8192, .i32⟩ : BufTy).Contents (Elt F)),
    StableHlo.nullary main_c_8 (constantI S_ 32 0#32),
    StableHlo.TRef.unary (.of main_c_8) main_call2.v0 id,
    StableHlo.TRef.unary main_call2.v0 main_call2.v1 (broadcastInDim S16384 ![] bcast_S_S16384),
    StableHlo.TRef.binary main_call2.v1 (.of main_v29) main_call2.v2 maxsi,
    StableHlo.nullary main_c_9 (constantI S_ 32 0#32),
    StableHlo.unary main_c_9 main_v35 (broadcastInDim S16384 ![] bcast_S_S16384 : (⟨S_, .i32⟩ : BufTy).Contents (Elt F) → (⟨S16384, .i32⟩ : BufTy).Contents (Elt F)),
    StableHlo.binary main_v34 main_v35 main_v36 (cmpi .slt : (⟨S16384, .i32⟩ : BufTy).Contents (Elt F) → (⟨S16384, .i32⟩ : BufTy).Contents (Elt F) → (⟨S16384, .i1⟩ : BufTy).Contents (Elt F)),
    StableHlo.nullary main_c_10 (constantI S_ 32 8192#32),
    StableHlo.unary main_c_10 main_v37 (broadcastInDim S16384 ![] bcast_S_S16384 : (⟨S_, .i32⟩ : BufTy).Contents (Elt F) → (⟨S16384, .i32⟩ : BufTy).Contents (Elt F)),
    StableHlo.binary main_v34 main_v37 main_v38 (addi : (⟨S16384, .i32⟩ : BufTy).Contents (Elt F) → (⟨S16384, .i32⟩ : BufTy).Contents (Elt F) → (⟨S16384, .i32⟩ : BufTy).Contents (Elt F)),
    StableHlo.ternary main_v36 main_v38 main_v34 main_v39 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v39 main_v40 (broadcastInDim S16384x1 ![0] bcast_S16384_S16384x1_0 : (⟨S16384, .i32⟩ : BufTy).Contents (Elt F) → (⟨S16384x1, .i32⟩ : BufTy).Contents (Elt F)),
    StableHlo.nullary main_c_11 (constantI S_ 32 1#32),
    StableHlo.unary main_c_11 main_v41 (broadcastInDim S16384 ![] bcast_S_S16384 : (⟨S_, .i32⟩ : BufTy).Contents (Elt F) → (⟨S16384, .i32⟩ : BufTy).Contents (Elt F)),
    StableHlo.ternary main_v33 main_v40 main_v41 main_v42 ((fun x i u => Host.scatter scatter_S8192_S16384x1_S16384_n_0_0_1 IntOp.addi x i u) : (⟨S8192, .i32⟩ : BufTy).Contents (Elt F) → (⟨S16384x1, .i32⟩ : BufTy).Contents (Elt F) → (⟨S16384, .i32⟩ : BufTy).Contents (Elt F) → (⟨S8192, .i32⟩ : BufTy).Contents (Elt F)),
    StableHlo.unary main_v42 main_v43 (sitofp .f32 : (⟨S8192, .i32⟩ : BufTy).Contents (Elt F) → (⟨S8192, .f32⟩ : BufTy).Contents (Elt F)) ]

/-- Part 3: the new codebook. -/
abbrev ops3 : List (HloOp τ sig (Elt F)) :=
  [ StableHlo.unary main_arg2 main_v44 (broadcastInDim S8192x1 ![0] bcast_S8192_S8192x1_0 : (⟨S8192, .f32⟩ : BufTy).Contents (Elt F) → (⟨S8192x1, .f32⟩ : BufTy).Contents (Elt F)),
    StableHlo.unary main_v44 main_v45 (broadcastInDim S8192x256 ![0, 1] bcast_S8192x1_S8192x256_0_1 : (⟨S8192x1, .f32⟩ : BufTy).Contents (Elt F) → (⟨S8192x256, .f32⟩ : BufTy).Contents (Elt F)),
    StableHlo.binary main_v45 main_arg1 main_v46 (mulf : (⟨S8192x256, .f32⟩ : BufTy).Contents (Elt F) → (⟨S8192x256, .f32⟩ : BufTy).Contents (Elt F) → (⟨S8192x256, .f32⟩ : BufTy).Contents (Elt F)),
    StableHlo.nullary main_cst_12 (constant S_ .f32 0x3F666666#32),
    StableHlo.unary main_cst_12 main_v47 (broadcastInDim S8192x256 ![] bcast_S_S8192x256 : (⟨S_, .f32⟩ : BufTy).Contents (Elt F) → (⟨S8192x256, .f32⟩ : BufTy).Contents (Elt F)),
    StableHlo.binary main_v46 main_v47 main_v48 (mulf : (⟨S8192x256, .f32⟩ : BufTy).Contents (Elt F) → (⟨S8192x256, .f32⟩ : BufTy).Contents (Elt F) → (⟨S8192x256, .f32⟩ : BufTy).Contents (Elt F)),
    StableHlo.nullary main_cst_13 (constant S_ .f32 0x3DCCCCCD#32),
    StableHlo.unary main_cst_13 main_v49 (broadcastInDim S8192x256 ![] bcast_S_S8192x256 : (⟨S_, .f32⟩ : BufTy).Contents (Elt F) → (⟨S8192x256, .f32⟩ : BufTy).Contents (Elt F)),
    StableHlo.binary main_v49 main_v32 main_v50 (mulf : (⟨S8192x256, .f32⟩ : BufTy).Contents (Elt F) → (⟨S8192x256, .f32⟩ : BufTy).Contents (Elt F) → (⟨S8192x256, .f32⟩ : BufTy).Contents (Elt F)),
    StableHlo.binary main_v48 main_v50 main_v51 (addf : (⟨S8192x256, .f32⟩ : BufTy).Contents (Elt F) → (⟨S8192x256, .f32⟩ : BufTy).Contents (Elt F) → (⟨S8192x256, .f32⟩ : BufTy).Contents (Elt F)),
    StableHlo.nullary main_cst_14 (constant S_ .f32 0x3F666666#32),
    StableHlo.unary main_cst_14 main_v52 (broadcastInDim S8192 ![] bcast_S_S8192 : (⟨S_, .f32⟩ : BufTy).Contents (Elt F) → (⟨S8192, .f32⟩ : BufTy).Contents (Elt F)),
    StableHlo.binary main_arg2 main_v52 main_v53 (mulf : (⟨S8192, .f32⟩ : BufTy).Contents (Elt F) → (⟨S8192, .f32⟩ : BufTy).Contents (Elt F) → (⟨S8192, .f32⟩ : BufTy).Contents (Elt F)),
    StableHlo.nullary main_cst_15 (constant S_ .f32 0x3DCCCCCD#32),
    StableHlo.unary main_cst_15 main_v54 (broadcastInDim S8192 ![] bcast_S_S8192 : (⟨S_, .f32⟩ : BufTy).Contents (Elt F) → (⟨S8192, .f32⟩ : BufTy).Contents (Elt F)),
    StableHlo.binary main_v54 main_v43 main_v55 (mulf : (⟨S8192, .f32⟩ : BufTy).Contents (Elt F) → (⟨S8192, .f32⟩ : BufTy).Contents (Elt F) → (⟨S8192, .f32⟩ : BufTy).Contents (Elt F)),
    StableHlo.binary main_v53 main_v55 main_v56 (addf : (⟨S8192, .f32⟩ : BufTy).Contents (Elt F) → (⟨S8192, .f32⟩ : BufTy).Contents (Elt F) → (⟨S8192, .f32⟩ : BufTy).Contents (Elt F)),
    StableHlo.unary main_v56 main_v57 (broadcastInDim S8192x1 ![0] bcast_S8192_S8192x1_0 : (⟨S8192, .f32⟩ : BufTy).Contents (Elt F) → (⟨S8192x1, .f32⟩ : BufTy).Contents (Elt F)),
    StableHlo.unary main_v57 main_v58 (broadcastInDim S8192x256 ![0, 1] bcast_S8192x1_S8192x256_0_1 : (⟨S8192x1, .f32⟩ : BufTy).Contents (Elt F) → (⟨S8192x256, .f32⟩ : BufTy).Contents (Elt F)),
    StableHlo.binary main_v51 main_v58 main_v59 (Host.divf : (⟨S8192x256, .f32⟩ : BufTy).Contents (Elt F) → (⟨S8192x256, .f32⟩ : BufTy).Contents (Elt F) → (⟨S8192x256, .f32⟩ : BufTy).Contents (Elt F)),
    StableHlo.nullary main_cst_16 (constant S_ .f32 0x3727C5AC#32),
    StableHlo.unary main_cst_16 main_v60 (broadcastInDim S256 ![] bcast_S_S256 : (⟨S_, .f32⟩ : BufTy).Contents (Elt F) → (⟨S256, .f32⟩ : BufTy).Contents (Elt F)),
    StableHlo.binary main_v14 main_v60 main_v61 (addf : (⟨S256, .f32⟩ : BufTy).Contents (Elt F) → (⟨S256, .f32⟩ : BufTy).Contents (Elt F) → (⟨S256, .f32⟩ : BufTy).Contents (Elt F)),
    StableHlo.unary main_v61 main_v62 (Host.sqrt : (⟨S256, .f32⟩ : BufTy).Contents (Elt F) → (⟨S256, .f32⟩ : BufTy).Contents (Elt F)),
    StableHlo.unary main_v62 main_v63 (broadcastInDim S1x256 ![1] bcast_S256_S1x256_1 : (⟨S256, .f32⟩ : BufTy).Contents (Elt F) → (⟨S1x256, .f32⟩ : BufTy).Contents (Elt F)),
    StableHlo.unary main_v63 main_v64 (broadcastInDim S8192x256 ![0, 1] bcast_S1x256_S8192x256_0_1 : (⟨S1x256, .f32⟩ : BufTy).Contents (Elt F) → (⟨S8192x256, .f32⟩ : BufTy).Contents (Elt F)),
    StableHlo.binary main_v59 main_v64 main_v65 (mulf : (⟨S8192x256, .f32⟩ : BufTy).Contents (Elt F) → (⟨S8192x256, .f32⟩ : BufTy).Contents (Elt F) → (⟨S8192x256, .f32⟩ : BufTy).Contents (Elt F)),
    StableHlo.unary main_v2 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S8192x256 ![0, 1] bcast_S1x256_S8192x256_0_1 : (⟨S1x256, .f32⟩ : BufTy).Contents (Elt F) → (⟨S8192x256, .f32⟩ : BufTy).Contents (Elt F)),
    StableHlo.binary main_v65 main_v67 main_v68 (addf : (⟨S8192x256, .f32⟩ : BufTy).Contents (Elt F) → (⟨S8192x256, .f32⟩ : BufTy).Contents (Elt F) → (⟨S8192x256, .f32⟩ : BufTy).Contents (Elt F)) ]

/-- The whole line. -/
abbrev ops : List (HloOp τ sig (Elt F)) := ops0 ++ (ops1 ++ (ops2 ++ ops3))

set_option maxHeartbeats 4000000 in
/-- The program is that line. -/
theorem main_eq (c : Dev nD) : main (F := F) c = seq ops := rfl

/-- The operations of part 0 touch buffers of the TensorCore alone. -/
theorem sub0 : (ops0 : List (HloOp τ sig (Elt F))).Forall fun op => op.bufs ⊆ tcRefs τ sig :=
  ⟨StableHlo.nullary_bufs_sub .., StableHlo.binary_bufs_sub .., StableHlo.nullary_bufs_sub .., StableHlo.unary_bufs_sub ..,
    StableHlo.binary_bufs_sub .., StableHlo.nullary_bufs_sub .., StableHlo.nullary_bufs_sub .., StableHlo.binary_bufs_sub ..,
    StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub ..,
    StableHlo.nullary_bufs_sub .., StableHlo.binary_bufs_sub .., StableHlo.nullary_bufs_sub .., StableHlo.binary_bufs_sub ..,
    StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub ..,
    StableHlo.unary_bufs_sub .., StableHlo.unary_bufs_sub .., StableHlo.binary_bufs_sub .., StableHlo.nullary_bufs_sub ..,
    StableHlo.unary_bufs_sub .., StableHlo.binary_bufs_sub .., StableHlo.unary_bufs_sub .., StableHlo.unary_bufs_sub ..,
    StableHlo.unary_bufs_sub .., StableHlo.binary_bufs_sub .., StableHlo.nullary_bufs_sub .., StableHlo.unary_bufs_sub ..,
    StableHlo.binary_bufs_sub ..⟩

/-- The operations of part 1 touch buffers of the TensorCore alone. -/
theorem sub1 : (ops1 : List (HloOp τ sig (Elt F))).Forall fun op => op.bufs ⊆ tcRefs τ sig :=
  ⟨StableHlo.binary_bufs_sub .., StableHlo.nullary_bufs_sub .., StableHlo.binary_bufs_sub .., StableHlo.unary_bufs_sub ..,
    StableHlo.binary_bufs_sub .., StableHlo.nullary_bufs_sub .., StableHlo.binary_bufs_sub .., StableHlo.unary_bufs_sub ..,
    StableHlo.unary_bufs_sub .., StableHlo.unary_bufs_sub .., StableHlo.binary_bufs_sub .., StableHlo.unary_bufs_sub ..,
    StableHlo.binary_bufs_sub .., StableHlo.nullary_bufs_sub .., StableHlo.unary_bufs_sub .., StableHlo.binary_bufs_sub ..,
    StableHlo.binary_bufs_sub .., StableHlo.nullary_bufs_sub .., StableHlo.nullary_bufs_sub .., StableHlo.nullary_bufs_sub ..,
    StableHlo.quaternary_bufs_sub .., StableHlo.quaternary_bufs_sub ..⟩

/-- The operations of part 2 touch buffers of the TensorCore alone. -/
theorem sub2 : (ops2 : List (HloOp τ sig (Elt F))).Forall fun op => op.bufs ⊆ tcRefs τ sig :=
  ⟨StableHlo.nullary_bufs_sub .., StableHlo.unary_bufs_sub .., StableHlo.unary_bufs_sub .., StableHlo.ternary_bufs_sub ..,
    StableHlo.nullary_bufs_sub .., StableHlo.unary_bufs_sub .., StableHlo.nullary_bufs_sub .., StableHlo.unary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub ..,
    StableHlo.ternary_bufs_sub .., StableHlo.unary_bufs_sub .., StableHlo.nullary_bufs_sub .., StableHlo.unary_bufs_sub ..,
    StableHlo.ternary_bufs_sub .., StableHlo.unary_bufs_sub ..⟩

/-- The operations of part 3 touch buffers of the TensorCore alone. -/
theorem sub3 : (ops3 : List (HloOp τ sig (Elt F))).Forall fun op => op.bufs ⊆ tcRefs τ sig :=
  ⟨StableHlo.unary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub ..,
    StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.unary_bufs_sub ..,
    StableHlo.unary_bufs_sub .., StableHlo.unary_bufs_sub .., StableHlo.binary_bufs_sub .., StableHlo.unary_bufs_sub ..,
    StableHlo.unary_bufs_sub .., StableHlo.binary_bufs_sub ..⟩

/-- So do those of the whole line. -/
theorem sub : (ops : List (HloOp τ sig (Elt F))).Forall fun op => op.bufs ⊆ tcRefs τ sig :=
  List.forall_append.mpr ⟨sub0, List.forall_append.mpr ⟨sub1, List.forall_append.mpr ⟨sub2, sub3⟩⟩⟩

/-- The program has no scoped buffer. -/
theorem scopedRefs : (Finset.univ.filter fun b : Ref sig .tc => b.isScoped) = ∅ := by decide
/-- The program has no scoped semaphore. -/
theorem scopedSems : (Finset.univ.filter fun sm : SemLoc sig => sm.isScoped .tc) = ∅ := by decide

end Cert.Proof.Ref

end
-- ==== Proof.RefValue.lean ====
/-
  What the reference leaves, as plain functions of its arguments, and its run with them.
-/
module

public import proofs.«01_k».proof.Proof.RefRun

@[expose] public section

set_option maxRecDepth 16384

noncomputable section

namespace Cert.Proof.Ref

open Cert.ReferenceIdeal
open Cert.ReferenceIdeal.Facts₀
open Idealize.ShloMosaic Idealize.ShloMosaic.TcCoe Idealize.SL.Sem
open Idealize.ShloMosaic.StableHlo (after seq tcRefs)

variable {F : FTy → Type} [FloatOps F]

/-- The columns' means. -/
def mean (X : Vec F S16384x256 .f32) : Vec F S256 .f32 :=
  Host.divf (Host.reduceAdd X (constant S_ .f32 0x00000000#32) reducesTo_S16384x256_S256_d0 h_S_)
    (broadcastInDim S256 ![] bcast_S_S256 (constant S_ .f32 0x46800000#32))

/-- The columns' deviations from their means. -/
def dev (X : Vec F S16384x256 .f32) : Vec F S16384x256 .f32 :=
  subf X (broadcastInDim S16384x256 ![0, 1] bcast_S1x256_S16384x256_0_1
    (Host.divf (broadcastInDim S1x256 ![1] bcast_S256_S1x256_1 (Host.reduceAdd X (constant S_ .f32 0x00000000#32) reducesTo_S16384x256_S256_d0 h_S_))
      (broadcastInDim S1x256 ![] bcast_S_S1x256 (constant S_ .f32 0x46800000#32))))

/-- The number of rows less the correction, which is none. -/
def rows : Vec F S_ .f32 := subf (constant S_ .f32 0x46800000#32) (sitofp .f32 (constantI S_ 32 0#32))

/-- The columns' variances. -/
def var (X : Vec F S16384x256 .f32) : Vec F S256 .f32 :=
  select (broadcastInDim S256 ![] bcast_S_S256 (cmpf .ogt (rows (F := F)) (constant S_ .f32 0x00000000#32)))
    (Host.divf (Host.reduceAdd (mulf (dev X) (dev X)) (constant S_ .f32 0x00000000#32) reducesTo_S16384x256_S256_d0 h_S_)
      (broadcastInDim S256 ![] bcast_S_S256 rows))
    (broadcastInDim S256 ![] bcast_S_S256 (id (constant S_ .f32 0x7FC00000#32)))

/-- The rows normalised. -/
def norm (X : Vec F S16384x256 .f32) : Vec F S16384x256 .f32 :=
  Host.divf (subf X (broadcastInDim S16384x256 ![0, 1] bcast_S1x256_S16384x256_0_1 (broadcastInDim S1x256 ![1] bcast_S256_S1x256_1 (mean X))))
    (broadcastInDim S16384x256 ![0, 1] bcast_S1x256_S16384x256_0_1 (broadcastInDim S1x256 ![1] bcast_S256_S1x256_1
      (Host.sqrt (addf (var X) (broadcastInDim S256 ![] bcast_S_S256 (constant S_ .f32 0x3727C5AC#32))))))

/-- The unbiased variances. -/
def unbiased (X : Vec F S16384x256 .f32) : Vec F S256 .f32 :=
  mulf (var X) (broadcastInDim S256 ![] bcast_S_S256 (constant S_ .f32 0x3F800200#32))

/-- The squared distances of rows `x` to codes `e`. -/
def dist (x : Vec F S16384x256 .f32) (e : Vec F S8192x256 .f32) : Vec F S16384x8192 .f32 :=
  subf (addf
      (broadcastInDim S16384x8192 ![0, 1] bcast_S16384x1_S16384x8192_0_1 (broadcastInDim S16384x1 ![0] bcast_S16384_S16384x1_0
        (Host.reduceAdd (mulf x x) (constant S_ .f32 0x00000000#32) reducesTo_S16384x256_S16384_d1 h_S_)))
      (broadcastInDim S16384x8192 ![0, 1] bcast_S1x8192_S16384x8192_0_1 (broadcastInDim S1x8192 ![1] bcast_S8192_S1x8192_1
        (Host.reduceAdd (mulf e e) (constant S_ .f32 0x00000000#32) reducesTo_S8192x256_S8192_d1 h_S_))))
    (mulf (broadcastInDim S16384x8192 ![] bcast_S_S16384x8192 (constant S_ .f32 0x40000000#32))
      (Host.dotGeneral dot_S16384x256_S256x8192_S16384x8192_1_0_0_1_n_n none x (transpose S256x8192 [1, 0] e transposes_S8192x256_S256x8192_1_0)))

/-- The nearest code of each row, from the distances. -/
def nearest (d : Vec F S16384x8192 .f32) : Vec F S16384 .i32 := fun j =>
  (Host.argReduce reducer_argmin_f32_i32 d (iotaInDim S16384x8192 32 1) (constant S_ .f32 0x7F800000#32) (constantI S_ 32 0#32)
    reducesTo_S16384x8192_S16384_d1 h_S_ j).2

/-- The sums of the rows of each code. -/
def sums (k : Vec F S16384 .i32) (x : Vec F S16384x256 .f32) : Vec F S8192x256 .f32 :=
  Host.scatterAdd scatter_S8192x256_S16384x1_S16384x256_1_0_0_1 (broadcastInDim S8192x256 ![] bcast_S_S8192x256 (constant S_ .f32 0x00000000#32))
    (broadcastInDim S16384x1 ![0] bcast_S16384_S16384x1_0 k) x

/-- The codes, no less than zero. -/
def clipped (k : Vec F S16384 .i32) : Vec F S16384 .i32 := maxsi (broadcastInDim S16384 ![] bcast_S_S16384 (id (constantI S_ 32 0#32))) k

/-- The codes, a negative one counted from the end. -/
def wrapped (k : Vec F S16384 .i32) : Vec F S16384 .i32 :=
  select (cmpi .slt (clipped (F := F) k) (broadcastInDim S16384 ![] bcast_S_S16384 (constantI S_ 32 0#32)))
    (addi (clipped (F := F) k) (broadcastInDim S16384 ![] bcast_S_S16384 (constantI S_ 32 8192#32))) (clipped (F := F) k)

/-- The number of rows of each code. -/
def counts (k : Vec F S16384 .i32) : Vec F S8192 .f32 :=
  sitofp .f32 (Host.scatter scatter_S8192_S16384x1_S16384_n_0_0_1 IntOp.addi (broadcastInDim S8192 ![] bcast_S_S8192 (constantI S_ 32 0#32))
    (broadcastInDim S16384x1 ![0] bcast_S16384_S16384x1_0 (wrapped (F := F) k)) (broadcastInDim S16384 ![] bcast_S_S16384 (constantI S_ 32 1#32)))

/-- The new codebook from the codes, the running number, the sums, the numbers, the unbiased variances and the means. -/
def final (e : Vec F S8192x256 .f32) (r : Vec F S8192 .f32) (d : Vec F S8192x256 .f32) (n : Vec F S8192 .f32) (u m : Vec F S256 .f32) : Vec F S8192x256 .f32 :=
  addf (mulf (Host.divf
        (addf (mulf (mulf (broadcastInDim S8192x256 ![0, 1] bcast_S8192x1_S8192x256_0_1 (broadcastInDim S8192x1 ![0] bcast_S8192_S8192x1_0 r)) e)
            (broadcastInDim S8192x256 ![] bcast_S_S8192x256 (constant S_ .f32 0x3F666666#32)))
          (mulf (broadcastInDim S8192x256 ![] bcast_S_S8192x256 (constant S_ .f32 0x3DCCCCCD#32)) d))
        (broadcastInDim S8192x256 ![0, 1] bcast_S8192x1_S8192x256_0_1 (broadcastInDim S8192x1 ![0] bcast_S8192_S8192x1_0
          (addf (mulf r (broadcastInDim S8192 ![] bcast_S_S8192 (constant S_ .f32 0x3F666666#32)))
            (mulf (broadcastInDim S8192 ![] bcast_S_S8192 (constant S_ .f32 0x3DCCCCCD#32)) n)))))
      (broadcastInDim S8192x256 ![0, 1] bcast_S1x256_S8192x256_0_1 (broadcastInDim S1x256 ![1] bcast_S256_S1x256_1
        (Host.sqrt (addf u (broadcastInDim S256 ![] bcast_S_S256 (constant S_ .f32 0x3727C5AC#32)))))))
    (broadcastInDim S8192x256 ![0, 1] bcast_S1x256_S8192x256_0_1 (broadcastInDim S1x256 ![1] bcast_S256_S1x256_1 m))

/-- What the reference leaves, from its three arguments. -/
def out (X : Vec F S16384x256 .f32) (e : Vec F S8192x256 .f32) (r : Vec F S8192 .f32) : Vec F S8192x256 .f32 :=
  let k := nearest (dist (norm X) e)
  final e r (sums k (norm X)) (counts k) (unbiased X) (mean X)

/-! ## What each part leaves -/

variable (V : Valuation τ sig (Elt F))

/-- Part 0 leaves the columns' means. -/
theorem read0_mean : after ops0 V main_v2 = mean (V main_arg0) := by after_reads_simp; rfl
/-- Part 0 leaves the normalised rows. -/
theorem read0_norm : after ops0 V main_v12 = norm (V main_arg0) := by after_reads_simp; rfl
/-- Part 0 leaves the unbiased variances. -/
theorem read0_unbiased : after ops0 V main_v14 = unbiased (V main_arg0) := by after_reads_simp; rfl
/-- Part 1 leaves the nearest codes. -/
theorem read1_nearest : after ops1 V main_v29 = nearest (dist (V main_v12) (V main_arg1)) := by after_reads_simp; rfl
/-- Part 2 leaves each code's sum of rows. -/
theorem read2_sums : after ops2 V main_v32 = sums (V main_v29) (V main_v12) := by after_reads_simp; rfl
/-- Part 2 leaves each code's number of rows. -/
theorem read2_counts : after ops2 V main_v43 = counts (V main_v29) := by after_reads_simp; rfl
/-- Part 3 leaves the result. -/
theorem read3_out : after ops3 V main_v68 = final (V main_arg1) (V main_arg2) (V main_v32) (V main_v43) (V main_v14) (V main_v2) := by
  after_reads_simp; rfl

/-- Part 0 keeps the codebook. -/
theorem keep0_codes : after ops0 V main_arg1 = V main_arg1 := by after_reads_simp
/-- Part 0 keeps the running numbers. -/
theorem keep0_number : after ops0 V main_arg2 = V main_arg2 := by after_reads_simp
/-- Part 1 keeps the codebook. -/
theorem keep1_codes : after ops1 V main_arg1 = V main_arg1 := by after_reads_simp
/-- Part 1 keeps the running numbers. -/
theorem keep1_number : after ops1 V main_arg2 = V main_arg2 := by after_reads_simp
/-- Part 1 keeps the normalised rows. -/
theorem keep1_norm : after ops1 V main_v12 = V main_v12 := by after_reads_simp
/-- Part 1 keeps the unbiased variances. -/
theorem keep1_unbiased : after ops1 V main_v14 = V main_v14 := by after_reads_simp
/-- Part 1 keeps the means. -/
theorem keep1_mean : after ops1 V main_v2 = V main_v2 := by after_reads_simp
/-- Part 2 keeps the codebook. -/
theorem keep2_codes : after ops2 V main_arg1 = V main_arg1 := by after_reads_simp
/-- Part 2 keeps the running numbers. -/
theorem keep2_number : after ops2 V main_arg2 = V main_arg2 := by after_reads_simp
/-- Part 2 keeps the unbiased variances. -/
theorem keep2_unbiased : after ops2 V main_v14 = V main_v14 := by after_reads_simp
/-- Part 2 keeps the means. -/
theorem keep2_mean : after ops2 V main_v2 = V main_v2 := by after_reads_simp
/-- Part 0 keeps the rows. -/
theorem keep0_rows : after ops0 V main_arg0 = V main_arg0 := by after_reads_simp
/-- Part 1 keeps the rows. -/
theorem keep1_rows : after ops1 V main_arg0 = V main_arg0 := by after_reads_simp
/-- Part 2 keeps the rows. -/
theorem keep2_rows : after ops2 V main_arg0 = V main_arg0 := by after_reads_simp
/-- Part 3 keeps the rows. -/
theorem keep3_rows : after ops3 V main_arg0 = V main_arg0 := by after_reads_simp
/-- Part 3 keeps the codebook. -/
theorem keep3_codes : after ops3 V main_arg1 = V main_arg1 := by after_reads_simp
/-- Part 3 keeps the running numbers. -/
theorem keep3_number : after ops3 V main_arg2 = V main_arg2 := by after_reads_simp

/-- Two lists of operations one after the other leave what the second leaves of what the first leaves. -/
theorem after_two (l₁ l₂ : List (HloOp τ sig (Elt F))) : after (l₁ ++ l₂) V = after l₂ (after l₁ V) := by
  induction l₁ generalizing V with
  | nil => rfl
  | cons op l ih => exact ih _

/-- The whole reference is its four parts in turn. -/
theorem after_ops : after ops V = after ops3 (after ops2 (after ops1 (after ops0 V))) := by
  unfold ops; rw [after_two, after_two, after_two]

/-- The whole reference leaves `out` of its arguments. -/
theorem read_out : after ops V main_v68 = out (V main_arg0) (V main_arg1) (V main_arg2) := by
  rw [after_ops, read3_out, keep2_codes, keep2_number, read2_sums, read2_counts, keep2_unbiased, keep2_mean,
    keep1_codes, keep1_number, read1_nearest, keep1_norm, keep1_unbiased, keep1_mean,
    keep0_codes, keep0_number, read0_norm, read0_unbiased, read0_mean]
  rfl

/-- The whole line keeps the rows. -/
theorem keep_rows : after ops V main_arg0 = V main_arg0 := by rw [after_ops, keep3_rows, keep2_rows, keep1_rows, keep0_rows]
/-- The whole line keeps the codebook. -/
theorem keep_codes : after ops V main_arg1 = V main_arg1 := by rw [after_ops, keep3_codes, keep2_codes, keep1_codes, keep0_codes]
/-- The whole line keeps the running numbers. -/
theorem keep_number : after ops V main_arg2 = V main_arg2 := by rw [after_ops, keep3_number, keep2_number, keep1_number, keep0_number]

/-- The operations of part 0 make no new buffer. -/
theorem fresh0 : ∀ op ∈ ops0 (F := F), op.fresh = ∅ := by
  intro _ h; (repeat (cases h with | head => rfl | tail _ h => ?_)); exact nomatch h
/-- The operations of part 1 make no new buffer. -/
theorem fresh1 : ∀ op ∈ ops1 (F := F), op.fresh = ∅ := by
  intro _ h; (repeat (cases h with | head => rfl | tail _ h => ?_)); exact nomatch h
/-- The operations of part 2 make no new buffer. -/
theorem fresh2 : ∀ op ∈ ops2 (F := F), op.fresh = ∅ := by
  intro _ h; (repeat (cases h with | head => rfl | tail _ h => ?_)); exact nomatch h
/-- The operations of part 3 make no new buffer. -/
theorem fresh3 : ∀ op ∈ ops3 (F := F), op.fresh = ∅ := by
  intro _ h; (repeat (cases h with | head => rfl | tail _ h => ?_)); exact nomatch h

/-- No operation of the reference leaves a result undetermined. -/
theorem fresh : ∀ op ∈ ops (F := F), op.fresh = ∅ := fun op h =>
  (List.mem_append.1 h).elim (fresh0 op) fun h => (List.mem_append.1 h).elim (fresh1 op) fun h =>
    (List.mem_append.1 h).elim (fresh2 op) (fresh3 op)

/-- The reference has no semaphore. -/
theorem noSem : IsEmpty (SemLoc sig) := by
  exact Fintype.card_eq_zero_iff.1 (by decide)

/-- The run of the reference: its result is `out` of its arguments, which stay, and every semaphore is at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v68)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun _ h =>
    ⟨fun c => ⟨(h c main_v68).trans (read_out _), (h c main_arg0).trans (keep_rows _), (h c main_arg1).trans (keep_codes _),
      (h c main_arg2).trans (keep_number _)⟩, funext fun g => (noSem.false g.2).elim⟩)
    (StableHlo.run_seq scopedRefs scopedSems defs main (fun _ => ops) main_eq (fun _ => sub) m ρ (fun _ => fresh))

end Cert.Proof.Ref

end
-- ==== Proof.Transport.lean ====
/-
  The kernel and its idealised print are one program where the named constant is the value of its pattern: what holds
  of the one's runs holds of the other's.
-/
module

public import proofs.«01_k».proof.Defs
public import proofs.«01_k».proof.Proof.Gen.Kernel
public import proofs.«01_k».proof.Proof.Gen.KernelIdeal

@[expose] public section

set_option maxRecDepth 16384

noncomputable section

namespace Cert.Proof

open Idealize.ShloMosaic Idealize.SL.Sem

/-- The named constant at words: its pattern's own value. -/
scoped instance namedBits : Named Bits where
  named _ _ {φ} b := Scalar.ofBits φ b

variable [hK : Cert.Kernel.Facts] [hI : Cert.KernelIdeal.Facts]

set_option maxHeartbeats 4000000

/-- The two programs' kernels are the same. -/
theorem kernels_eq : Cert.Kernel.defs₀ (F := Bits) = Cert.KernelIdeal.defs₀ (F := Bits) := by
  refine congrArg Defs.onTc (funext fun l => funext fun a => ?_)
  match l, a with
  | 0, a => rfl
  | 1, a => rfl
  | 2, a => rfl
  | 3, a => rfl
  | ⟨_ + 4, h⟩, _ => exact absurd h (Nat.not_lt.2 (Nat.le_add_left _ _))
/-- The two programs' definitions are the same. -/
theorem defs_eq : Cert.Kernel.defs (F := Bits) = Cert.KernelIdeal.defs (F := Bits) :=
  congrArg (Pipeline.defs Cert.Kernel.pcfgs) kernels_eq
/-- The frame of the idealised print, read at words, is the kernel's. -/
theorem frame_of_ideal
  (H : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) : quiescent_Kernel := by
  intro m g _
  rw [defs_eq]
  exact H m g

end Cert.Proof
end
-- ==== Proof.Frames.lean ====
/-
  The three frames, each read off the program's run.
-/
module

public import proofs.«01_k».proof.Proof.Run
public import proofs.«01_k».proof.Proof.RefValue
public import proofs.«01_k».proof.Proof.Transport
public import proofs.«01_k».proof.Proof.Gen.Kernel

@[expose] public section

set_option maxRecDepth 16384

noncomputable section

namespace Cert.Proof

open Idealize.ShloMosaic Idealize.SL.Sem

/-- The kernel ends with its arguments as they were and every semaphore at zero. -/
theorem frame_kernel : quiescent_Kernel :=
  frame_of_ideal fun m g => (θ_run _ _ _).mono (fun _ h => ⟨fun c => (h.1 c).2, h.2⟩) (run (F := Bits) m g)

/-- The idealised kernel ends with its arguments as they were and every semaphore at zero. -/
theorem frame_ideal : quiescent_KernelIdeal := fun m g _ =>
  (θ_run _ _ _).mono (fun _ h => ⟨fun c => (h.1 c).2, h.2⟩) (run (F := Ideal) m g)

/-- The reference ends with its arguments as they were and every semaphore at zero. -/
theorem frame_reference : quiescent_ReferenceIdeal := fun m g _ =>
  (θ_run _ _ _).mono (fun _ h => ⟨fun c => (h.1 c).2, h.2⟩) (Ref.run (F := Ideal) m g)

/-- The named constant is what its name says. -/
theorem preserved : preserves_Kernel_KernelIdeal :=
  IdealRules.named_const.statement Cert.KernelIdeal.κ "far" .f32 0x7F61B1E6#32 ⊤ rfl

end Cert.Proof

end
-- ==== Proof.Rows.lean ====
/-
  Windows of matrices read by row and column, sums over rows in blocks, and the constants as real numbers.
-/
module

public import Idealize.ShloMosaic.Lib.Pipeline.Kit
public import Idealize.ShloMosaic.Lib.Tactic
public import Idealize.ShloMosaic.Lib.VecWindow
public import Idealize.ShloMosaic.Lib.Pointwise
public import Idealize.ShloMosaic.Lib.IdealHost

@[expose] public section

set_option maxRecDepth 16384

noncomputable section

namespace Cert.Proof

open Idealize.ShloMosaic Idealize.ShloMosaic.VecWindow

variable {α : Type}

/-- A matrix's window at row `a`, column `b`, read by row and column. -/
theorem window_at {M N m n : ℕ} (x : (⟨2, ![M, N]⟩ : Shape).Idx → α) (a b : ℕ)
    (inb : ∀ i : Fin 2, (![a, b] : Fin 2 → ℕ) i + (![m, n] : Fin 2 → ℕ) i ≤ (![M, N] : Fin 2 → ℕ) i) (r : Fin m) (c : Fin n)
    (hr : a + r.val < M) (hc : b + c.val < N) :
    window (s := ⟨2, ![M, N]⟩) x ![a, b] ![m, n] inb (ix2 r c) = x (ix2 ⟨a + r.val, hr⟩ ⟨b + c.val, hc⟩) := by
  unfold window
  refine congrArg x (funext fun i => Fin.ext ?_)
  match i with
  | ⟨0, _⟩ => show a + 1 * r.val = a + r.val; omega
  | ⟨1, _⟩ => show b + 1 * c.val = b + c.val; omega

/-- The same, the window's place given by an equation. -/
theorem window_off {M N m n : ℕ} (x : (⟨2, ![M, N]⟩ : Shape).Idx → α) (o : Fin 2 → ℕ) (a b : ℕ) (ho : o = ![a, b])
    (inb : ∀ i : Fin 2, o i + (![m, n] : Fin 2 → ℕ) i ≤ (![M, N] : Fin 2 → ℕ) i) (r : Fin m) (c : Fin n)
    (hr : a + r.val < M) (hc : b + c.val < N) :
    window (s := ⟨2, ![M, N]⟩) x o ![m, n] inb (ix2 r c) = x (ix2 ⟨a + r.val, hr⟩ ⟨b + c.val, hc⟩) := by
  subst ho
  exact window_at x a b inb r c hr hc

/-- Rows put over a matrix, read at a row among them. -/
theorem put_hit {M N m : ℕ} (x : (⟨2, ![M, N]⟩ : Shape).Idx → α) (a : ℕ) (w : (⟨2, ![m, N]⟩ : Shape).Idx → α) (i : Fin M) (j : Fin N) (r : Fin m)
    (h : i.val = a + r.val) : put (s := ⟨2, ![M, N]⟩) x ![a, 0] ![m, N] w (ix2 i j) = w (ix2 r j) := by
  unfold put
  rw [dif_pos]
  · refine congrArg w (funext fun b => Fin.ext ?_)
    match b with
    | ⟨0, _⟩ => show i.val - a = r.val; omega
    | ⟨1, _⟩ => show j.val - 0 = j.val; omega
  · intro b
    match b with
    | ⟨0, _⟩ => exact ⟨show a ≤ i.val by omega, show i.val < a + m from by have := r.isLt; omega⟩
    | ⟨1, _⟩ => exact ⟨show 0 ≤ j.val by omega, show j.val < 0 + N from by have := j.isLt; omega⟩

/-- Rows put over a matrix, read at a row not among them. -/
theorem put_miss {M N m : ℕ} (x : (⟨2, ![M, N]⟩ : Shape).Idx → α) (a : ℕ) (w : (⟨2, ![m, N]⟩ : Shape).Idx → α) (i : Fin M) (j : Fin N)
    (h : i.val < a ∨ a + m ≤ i.val) : put (s := ⟨2, ![M, N]⟩) x ![a, 0] ![m, N] w (ix2 i j) = x (ix2 i j) := by
  unfold put
  rw [dif_neg]
  intro hb
  have h0 : a ≤ i.val ∧ i.val < a + m := hb 0
  omega

/-- A function of `Fin n` as one of all naturals, zero beyond. -/
def ext {n : ℕ} (f : Fin n → EReal) (k : ℕ) : EReal := if h : k < n then f ⟨k, h⟩ else 0

/-- A sum over `Fin n` as one over the naturals below `n`. -/
theorem sum_ext {n : ℕ} (f : Fin n → EReal) : ∑ k ∈ Finset.range n, ext f k = ∑ k, f k := by
  rw [← Fin.sum_univ_eq_sum_range]
  exact Finset.sum_congr rfl fun k _ => dif_pos k.isLt

/-- A sum below `b + m` is the sum below `b` and the block of `m` that follows. -/
theorem sum_block {n : ℕ} (f : Fin n → EReal) (b m : ℕ) (g : Fin m → EReal) (hg : ∀ r : Fin m, ∃ h : b + r.val < n, g r = f ⟨b + r.val, h⟩) :
    ∑ k ∈ Finset.range b, ext f k + ∑ r, g r = ∑ k ∈ Finset.range (b + m), ext f k := by
  rw [Finset.sum_range_add, ← Fin.sum_univ_eq_sum_range (fun k => ext f (b + k)) m]
  refine congrArg _ (Finset.sum_congr rfl fun r _ => ?_)
  obtain ⟨h, e⟩ := hg r
  rw [e]
  unfold ext
  rw [dif_pos h]

/-! ## Constants -/

/-- The constant 1/16384. -/
theorem const_share : Ideal.ofBits .f32 0x38800000#32 = (((1 : ℝ) / 16384 : ℝ) : EReal) := by
  simp [Ideal.ofBits, Ideal.ieee, -EReal.coe_mul]; norm_num
/-- The constant 16384. -/
theorem const_rows : Ideal.ofBits .f32 0x46800000#32 = ((16384 : ℝ) : EReal) := by
  simp [Ideal.ofBits, Ideal.ieee, -EReal.coe_mul]; norm_num
/-- The constant 2. -/
theorem const_two : Ideal.ofBits .f32 0x40000000#32 = ((2 : ℝ) : EReal) := by
  simp [Ideal.ofBits, Ideal.ieee, -EReal.coe_mul]; norm_num
/-- The constant added to a variance is positive. -/
theorem const_eps : ∃ r : ℝ, 0 < r ∧ Ideal.ofBits .f32 0x3727C5AC#32 = (r : EReal) := by
  refine ⟨_, ?_, by simp [Ideal.ofBits, Ideal.ieee]; rfl⟩
  positivity
/-- The constant infinity. -/
theorem const_far : Ideal.ofBits .f32 0x7F800000#32 = (⊤ : EReal) := by simp [Ideal.ofBits, Ideal.ieee]

end Cert.Proof

end
-- ==== Proof.First.lean ====
/-
  The first index of a least value: of a block, of a running minimum over blocks, of a fold over a list in any order.
-/
module

public import proofs.«01_k».proof.Proof.Rows
public import proofs.«01_k».proof.ReferenceIdeal
public import Idealize.ShloMosaic.PureOps.Reduce
public import Idealize.ShloMosaic.PureOps.Ideal.Laws

@[expose] public section

set_option maxRecDepth 16384

noncomputable section

namespace Cert.Proof

open Idealize.ShloMosaic

variable {n : ℕ}

/-- Index `a` comes before index `b` of the values `D`: a smaller value, or an equal one no later. -/
def Before (D : Fin n → EReal) (a b : Fin n) : Prop := D a < D b ∨ (D a = D b ∧ a ≤ b)

/-- `Before` is transitive. -/
theorem Before.trans {D : Fin n → EReal} {a b c : Fin n} (h : Before D a b) (h' : Before D b c) : Before D a c := by
  rcases h with h | ⟨h, hl⟩ <;> rcases h' with h' | ⟨h', hl'⟩
  · exact .inl (h.trans h')
  · exact .inl (h'.symm ▸ h)
  · exact .inl (h ▸ h')
  · exact .inr ⟨h.trans h', hl.trans hl'⟩

/-- `Before` is reflexive. -/
theorem Before.refl (D : Fin n → EReal) (a : Fin n) : Before D a a := .inr ⟨rfl, le_rfl⟩

/-- What comes before is not greater. -/
theorem Before.le {D : Fin n → EReal} {a b : Fin n} (h : Before D a b) : D a ≤ D b := h.elim le_of_lt fun h => h.1.le

/-- Two indices each before the other are one. -/
theorem Before.antisymm {D : Fin n → EReal} {a b : Fin n} (h : Before D a b) (h' : Before D b a) : a = b := by
  rcases h with h | ⟨h, hl⟩
  · exact absurd h'.le (not_le.2 h)
  · rcases h' with h' | ⟨_, hl'⟩
    · exact absurd h.le (not_le.2 h')
    · exact le_antisymm hl hl'

/-- There is a first one. -/
theorem exists_first (D : Fin n → EReal) (hn : 0 < n) : ∃ a, ∀ b, Before D a b := by
  obtain ⟨a, -, h⟩ := Finset.exists_min_image (Finset.univ : Finset (Fin n)) (fun r => toLex (D r, r)) ⟨⟨0, hn⟩, Finset.mem_univ _⟩
  exact ⟨a, fun b => (Prod.Lex.le_iff.1 (h b (Finset.mem_univ b)))⟩

/-- The fold of the minimum from infinity is the first one's value. -/
theorem fold_min_first (D : Fin n → EReal) (a : Fin n) (h : ∀ b, Before D a b) : Finset.fold min ⊤ D Finset.univ = D a :=
  le_antisymm ((Finset.fold_min_le _).2 (.inr ⟨a, Finset.mem_univ a, le_rfl⟩)) ((Finset.le_fold_min _).2 ⟨le_top, fun b _ => (h b).le⟩)

/-- A small number's word, read as an integer. -/
theorem toInt_small (k : ℕ) (h : k < 2 ^ 31) : (BitVec.ofNat 32 k).toInt = k := by
  rw [BitVec.toInt_eq_toNat_of_lt (by rw [BitVec.toNat_ofNat]; omega), BitVec.toNat_ofNat, Nat.mod_eq_of_lt (by omega)]

/-- A fold of the signed minimum, read as an integer. -/
theorem toInt_fold_min (i : BitVec 32) (f : Fin n → BitVec 32) :
    (Finset.fold IntOp.minsi i f Finset.univ).toInt = Finset.fold min i.toInt (fun r => (f r).toInt) Finset.univ := by
  refine (Finset.fold_hom (op := IntOp.minsi) (op' := min) (m := BitVec.toInt) (fun x y => ?_)).symm
  unfold IntOp.minsi
  rw [BitVec.slt_eq_decide]
  split
  · rename_i h; rw [min_eq_left (of_decide_eq_true h).le]
  · rename_i h; rw [min_eq_right (not_lt.1 fun h' => h (decide_eq_true h'))]

/-- The fold of the signed minimum of the indices with the least value, the others out of the way: the first one. -/
theorem fold_index_first (D : Fin 64 → EReal) (a : Fin 64) (h : ∀ b, Before D a b) (w : BitVec 32) (b : ℕ) (hb : b + 64 ≤ 8192) (hw : w = BitVec.ofNat 32 b) :
    Finset.fold IntOp.minsi 2147483647#32 (fun r => if D r = D a then IntOp.addi (BitVec.ofNat 32 r.val) w else 8192#32) Finset.univ
      = BitVec.ofNat 32 (b + a.val) := by
  have hv : ∀ r : Fin 64, (IntOp.addi (BitVec.ofNat 32 r.val) w).toInt = b + r.val := fun r => by
    have hr := r.isLt
    subst hw
    show (BitVec.ofNat 32 r.val + BitVec.ofNat 32 b).toInt = _
    rw [← BitVec.ofNat_add, toInt_small _ (by omega)]
    push_cast; ring
  have ha := a.isLt
  refine BitVec.eq_of_toInt_eq ?_
  rw [toInt_fold_min, toInt_small (b + a.val) (by omega)]
  refine le_antisymm ((Finset.fold_min_le _).2 (.inr ⟨a, Finset.mem_univ a, ?_⟩)) ((Finset.le_fold_min _).2 ⟨?_, fun r _ => ?_⟩)
  · rw [if_pos rfl, hv]; push_cast; exact le_refl _
  · show _ ≤ (2147483647 : ℤ)
    push_cast; omega
  · split
    · rename_i he
      rw [hv]
      rcases h r with h' | ⟨_, h'⟩
      · exact absurd he.symm h'.ne
      · have : a.val ≤ r.val := h'
        push_cast; omega
    · show _ ≤ (8192 : ℤ)
      push_cast; omega

/-- A running minimum and its index after the first `m` values. -/
def Running (D : Fin n → EReal) (m : ℕ) (v : EReal) (w : BitVec 32) : Prop :=
  (m = 0 ∧ v = ⊤) ∨ ∃ a : Fin n, a.val < m ∧ v = D a ∧ w = BitVec.ofNat 32 a.val ∧ ∀ b : Fin n, b.val < m → Before D a b

/-- A block of 64 more values: the running minimum is replaced where the block's is less. -/
theorem Running.step {D : Fin 8192 → EReal} (hD : ∀ a, D a < ⊤) {m : ℕ} (hm : m + 64 ≤ 8192) {v : EReal} {w : BitVec 32} (h : Running D m v w)
    (d : Fin 64 → EReal) (hd : ∀ r : Fin 64, d r = D ⟨m + r.val, by omega⟩) (s : Fin 64) (hs : ∀ r, Before d s r) :
    Running D (m + 64) (if d s < v then d s else v) (if d s < v then BitVec.ofNat 32 (m + s.val) else w) := by
  have hs' := s.isLt
  right
  have hblock : ∀ b : Fin 8192, m ≤ b.val → (hb : b.val < m + 64) → Before D ⟨m + s.val, by omega⟩ b := fun b h1 h2 => by
    have h0 := hs ⟨b.val - m, by omega⟩
    unfold Before at h0 ⊢
    rw [hd, hd] at h0
    have hb : (⟨m + (b.val - m), by omega⟩ : Fin 8192) = b := Fin.ext (show m + (b.val - m) = b.val by omega)
    rw [hb] at h0
    refine h0.imp id fun h0 => ⟨h0.1, ?_⟩
    have h3 : s.val ≤ b.val - m := h0.2
    show m + s.val ≤ b.val
    omega
  by_cases hlt : d s < v
  · rw [if_pos hlt, if_pos hlt]
    refine ⟨⟨m + s.val, by omega⟩, by show m + s.val < m + 64; omega, hd s, rfl, fun b hb => ?_⟩
    by_cases hbm : b.val < m
    · rcases h with ⟨h, _⟩ | ⟨a, ha, hv, _, hall⟩
      · omega
      · left
        rw [← hd s]
        exact (hv ▸ hlt).trans_le (hall b hbm).le
    · exact hblock b (by omega) hb
  · rw [if_neg hlt, if_neg hlt]
    rcases h with ⟨_, h⟩ | ⟨a, ha, hv, hw, hall⟩
    · exact absurd (hd s ▸ hD _ : d s < ⊤) (h ▸ hlt)
    · refine ⟨a, by omega, hv, hw, fun b hb => ?_⟩
      by_cases hbm : b.val < m
      · exact hall b hbm
      · refine Before.trans ?_ (hblock b (by omega) hb)
        have hle : D a ≤ D ⟨m + s.val, by omega⟩ := by rw [← hd s, ← hv]; exact not_lt.1 hlt
        rcases hle.lt_or_eq with h1 | h1
        · exact .inl h1
        · exact .inr ⟨h1, show a.val ≤ m + s.val by omega⟩

/-! ## The reference's fold -/

/-- A value with its index. -/
def pair (D : Fin 8192 → EReal) (a : Fin 8192) : EReal × BitVec 32 := (D a, BitVec.ofNat 32 a.val)

/-- The words of two codes compare as the codes do. -/
theorem word_lt (a b : Fin 8192) : (BitVec.ofNat 32 a.val).slt (BitVec.ofNat 32 b.val) = decide (a < b) := by
  have ha := a.isLt
  have hb := b.isLt
  rw [BitVec.slt_eq_decide, toInt_small _ (by omega), toInt_small _ (by omega)]
  exact decide_eq_decide.2 (by rw [Nat.cast_lt]; exact Iff.rfl)

/-- The reference's choice between two pairs: the one before the other. -/
theorem choose_pair (D : Fin 8192 → EReal) (a b : Fin 8192) (hab : a ≠ b) :
    (Before D a b → Cert.ReferenceIdeal.reducer_argmin_f32_i32 (F := Ideal) (pair D a) (pair D b) = pair D a)
    ∧ (¬ Before D a b → Cert.ReferenceIdeal.reducer_argmin_f32_i32 (F := Ideal) (pair D a) (pair D b) = pair D b) := by
  have key : Cert.ReferenceIdeal.reducer_argmin_f32_i32 (F := Ideal) (pair D a) (pair D b)
      = (if D a < D b then D a else D b, if D a < D b ∨ (D a = D b ∧ a < b) then BitVec.ofNat 32 a.val else BitVec.ofNat 32 b.val) := by
    unfold Cert.ReferenceIdeal.reducer_argmin_f32_i32 pair
    simp only [Ideal.cmpf_def, Ideal.cmp, IntOp.cmpi, word_lt]
    by_cases h1 : D a < D b
    · simp [h1, h1.ne, Scalar.select, IntOp.ori, IntOp.andi]
    · by_cases h2 : D a = D b
      · by_cases h3 : a < b <;> simp [h2, h3, Scalar.select, IntOp.ori, IntOp.andi]
      · simp [h1, h2, Scalar.select, IntOp.ori, IntOp.andi]
  rw [key]
  unfold Before pair
  constructor
  · rintro (h | ⟨h, hl⟩)
    · rw [if_pos h, if_pos (.inl h)]
    · rw [if_neg (by rw [h]; exact lt_irrefl _), if_pos (.inr ⟨h, lt_of_le_of_ne hl hab⟩), h]
  · intro h
    rw [not_or] at h
    rw [if_neg h.1, if_neg]
    rintro (h' | ⟨h', hl⟩)
    · exact h.1 h'
    · exact h.2 ⟨h', hl.le⟩

/-- The reference's choice between a pair and itself is that pair. -/
theorem choose_same (D : Fin 8192 → EReal) (a : Fin 8192) :
    Cert.ReferenceIdeal.reducer_argmin_f32_i32 (F := Ideal) (pair D a) (pair D a) = pair D a := by
  unfold Cert.ReferenceIdeal.reducer_argmin_f32_i32 pair
  simp [Ideal.cmpf_def, Ideal.cmp, IntOp.cmpi, Scalar.select, IntOp.ori, IntOp.andi]

/-- From infinity any pair is chosen. -/
theorem choose_start (D : Fin 8192 → EReal) (hD : ∀ a, D a < ⊤) (w : BitVec 32) (a : Fin 8192) :
    Cert.ReferenceIdeal.reducer_argmin_f32_i32 (F := Ideal) ((⊤ : EReal), w) (pair D a) = pair D a := by
  have h := hD a
  unfold Cert.ReferenceIdeal.reducer_argmin_f32_i32 pair
  simp only [Ideal.cmpf_def, Ideal.cmp, IntOp.cmpi]
  have h1 : ¬ (⊤ : EReal) < D a := not_top_lt
  simp [h1, h.ne', Scalar.select, IntOp.ori, IntOp.andi]

/-- The fold over pairs from one of them: a pair before all of them. -/
theorem fold_pairs (D : Fin 8192 → EReal) : ∀ (L : List (EReal × BitVec 32)) (_ : ∀ p ∈ L, ∃ a, p = pair D a) (a : Fin 8192),
    ∃ c, L.foldl (Cert.ReferenceIdeal.reducer_argmin_f32_i32 (F := Ideal)) (pair D a) = pair D c ∧ Before D c a ∧ ∀ b, pair D b ∈ L → Before D c b
  | [], _, a => ⟨a, rfl, .refl D a, fun _ h => absurd h List.not_mem_nil⟩
  | p :: L, hL, a => by
    obtain ⟨b, rfl⟩ := hL p List.mem_cons_self
    obtain ⟨k, hk, hka, hkb⟩ : ∃ k, Cert.ReferenceIdeal.reducer_argmin_f32_i32 (F := Ideal) (pair D a) (pair D b) = pair D k ∧ Before D k a ∧ Before D k b := by
      by_cases hab : a = b
      · subst hab
        exact ⟨a, choose_same D a, .refl D a, .refl D a⟩
      · by_cases h : Before D a b
        · exact ⟨a, (choose_pair D a b hab).1 h, .refl D a, h⟩
        · refine ⟨b, (choose_pair D a b hab).2 h, ?_, .refl D b⟩
          unfold Before at h ⊢
          rw [not_or, not_and_or, not_lt] at h
          rcases h.1.lt_or_eq with h1 | h1
          · exact .inl h1
          · rcases h.2 with h2 | h2
            · exact absurd h1.symm h2
            · exact .inr ⟨h1, (not_le.1 h2).le⟩
    obtain ⟨c, hc, hck, hall⟩ := fold_pairs D L (fun p hp => hL p (List.mem_cons_of_mem _ hp)) k
    refine ⟨c, ?_, hck.trans hka, fun x hx => ?_⟩
    · rw [List.foldl_cons, hk, hc]
    · rcases List.mem_cons.1 hx with hx | hx
      · have hxb : Before D b x := by
          have h1 : D x = D b := congrArg Prod.fst hx
          have h2 : BitVec.ofNat 32 x.val = BitVec.ofNat 32 b.val := congrArg Prod.snd hx
          have h3 : x = b := by
            have := congrArg BitVec.toNat h2
            have hx := x.isLt
            have hb := b.isLt
            rw [BitVec.toNat_ofNat, BitVec.toNat_ofNat, Nat.mod_eq_of_lt (by omega), Nat.mod_eq_of_lt (by omega)] at this
            exact Fin.ext this
          rw [h3]; exact .refl D b
        exact (hck.trans hkb).trans hxb
      · exact hall x hx

/-- The fold over all pairs, in any order, from infinity: the first one. -/
theorem fold_all (D : Fin 8192 → EReal) (hD : ∀ a, D a < ⊤) (w : BitVec 32) (L : List (EReal × BitVec 32)) (hL : ∀ p ∈ L, ∃ a, p = pair D a)
    (hall : ∀ a, pair D a ∈ L) (c : Fin 8192) (hc : ∀ b, Before D c b) :
    L.foldl (Cert.ReferenceIdeal.reducer_argmin_f32_i32 (F := Ideal)) ((⊤ : EReal), w) = pair D c := by
  match L, hL, hall with
  | [], _, hall => exact absurd (hall c) List.not_mem_nil
  | p :: L, hL, hall =>
    obtain ⟨a, rfl⟩ := hL p List.mem_cons_self
    obtain ⟨k, hk, hka, hkb⟩ := fold_pairs D L (fun p hp => hL p (List.mem_cons_of_mem _ hp)) a
    rw [List.foldl_cons, choose_start D hD, hk]
    have hkc : Before D k c := by
      rcases List.mem_cons.1 (hall c) with h | h
      · have h1 : D c = D a := congrArg Prod.fst h
        have h2 : BitVec.ofNat 32 c.val = BitVec.ofNat 32 a.val := congrArg Prod.snd h
        have h3 : c = a := by
          have := congrArg BitVec.toNat h2
          have hx := c.isLt
          have hb := a.isLt
          rw [BitVec.toNat_ofNat, BitVec.toNat_ofNat, Nat.mod_eq_of_lt (by omega), Nat.mod_eq_of_lt (by omega)] at this
          exact Fin.ext this
        rw [h3]; exact hka
      · exact hkb c h
    rw [hkc.antisymm (hc k)]

end Cert.Proof

end
-- ==== Proof.Stats.lean ====
/-
  The columns' statistics: what the first kernel leaves, and the reference's means and variances.
-/
module

public import proofs.«01_k».proof.Proof.Region0
public import proofs.«01_k».proof.Proof.RefValue
public import proofs.«01_k».proof.Proof.Rows

@[expose] public section

set_option maxRecDepth 16384

noncomputable section

namespace Cert.Proof

open Cert.KernelIdeal Cert.KernelIdeal.Gen
open Idealize.ShloMosaic Idealize.ShloMosaic.VecWindow

variable (X : Vec Ideal S16384x256 .f32) (j : Fin 256)

/-- A column's sum. -/
def colSum : EReal := ∑ i : Fin 16384, X (ix2 i j)

/-- A column's mean. -/
def colMean : EReal := colSum X j * Ideal.ofBits .f32 0x38800000#32

/-- An element's squared deviation from its column's mean. -/
def sqDev (i : Fin 16384) : EReal := (X (ix2 i j) - colMean X j) * (X (ix2 i j) - colMean X j)

/-- A column's variance. -/
def colVar : EReal := (∑ i, sqDev X j i) * Ideal.ofBits .f32 0x38800000#32

/-- Row `r` of block `n` of 512 rows is row `512 n + r`. -/
theorem rows0_at (n : ℕ) (r : Fin 512) (b : ℕ) (hb : b = 512 * (n % 32)) :
    ∃ h : b + r.val < 16384, rows0 X n (ix2 r j) = X (ix2 ⟨b + r.val, h⟩ j) := by
  have hr := r.isLt
  refine ⟨by omega, ?_⟩
  unfold rows0
  refine (window_at X _ 0 _ r j (by omega) (by have := j.isLt; omega)).trans (congrArg X ?_)
  subst hb
  exact congrArg _ (Fin.ext (Nat.zero_add _))

/-- A step of the first pass adds its rows to the sums. -/
theorem sumStep_sum (x : Vec Ideal S512x256 .f32) (a : Vec Ideal S2x256 .f32) :
    sumStep x a (ix2 0 j) = a (ix2 0 j) + ∑ r : Fin 512, x (ix2 r j) := by
  unfold sumStep
  refine (put_hit a 0 _ 0 j 0 rfl).trans ?_
  pointwise [k0_pay2]
  refine congrArg (· + _) ((window_at a 0 0 _ 0 j (by decide) (by have := j.isLt; omega)).trans (congrArg a ?_))
  exact congrArg (ix2 _) (Fin.ext (Nat.zero_add _))

/-- A step of the first pass keeps the deviations. -/
theorem sumStep_dev (x : Vec Ideal S512x256 .f32) (a : Vec Ideal S2x256 .f32) : sumStep x a (ix2 1 j) = a (ix2 1 j) := by
  unfold sumStep
  exact put_miss a 0 _ 1 j (.inr (by decide))

/-- A step of the second pass keeps the sums. -/
theorem devStep_sum (x : Vec Ideal S512x256 .f32) (a : Vec Ideal S2x256 .f32) : devStep x a (ix2 0 j) = a (ix2 0 j) := by
  unfold devStep
  exact put_miss a 1 _ 0 j (.inl (by decide))

/-- A step of the second pass adds its rows' squared deviations. -/
theorem devStep_dev (x : Vec Ideal S512x256 .f32) (a : Vec Ideal S2x256 .f32) :
    devStep x a (ix2 1 j) = a (ix2 1 j) + ∑ r : Fin 512, (x (ix2 r j) - a (ix2 0 j) * Ideal.ofBits .f32 0x38800000#32)
      * (x (ix2 r j) - a (ix2 0 j) * Ideal.ofBits .f32 0x38800000#32) := by
  unfold devStep
  refine (put_hit a 1 _ 1 j 0 rfl).trans ?_
  have h0 : window (s := S2x256) a ![0, 0] S1x256.size inb_S2x256_S1x256_0_0 (ix2 0 j) = a (ix2 0 j) :=
    (window_at a 0 0 _ 0 j (by decide) (by have := j.isLt; omega)).trans (congrArg a (congrArg (ix2 _) (Fin.ext (Nat.zero_add _))))
  have h1 : window (s := S2x256) a ![1, 0] S1x256.size inb_S2x256_S1x256_1_0 (ix2 0 j) = a (ix2 1 j) :=
    (window_at a 1 0 _ 0 j (by decide) (by have := j.isLt; omega)).trans (congrArg a (congrArg (ix2 _) (Fin.ext (Nat.zero_add _))))
  rw [← h0, ← h1]
  generalize window (s := S2x256) a ![0, 0] S1x256.size inb_S2x256_S1x256_0_0 = a0
  generalize window (s := S2x256) a ![1, 0] S1x256.size inb_S2x256_S1x256_1_0 = a1
  pointwise [k0_pay3]

/-- After `n` points of the first pass: the sums of the rows so far, and no deviations. -/
theorem sums0_first : ∀ n ≤ 32, sums0 X n (ix2 0 j) = ∑ k ∈ Finset.range (512 * n), ext (fun i => X (ix2 i j)) k ∧ sums0 X n (ix2 1 j) = 0
  | 0, _ => by
    have h : ∀ i : Fin 2, sums0 X 0 (ix2 i j) = 0 := fun i => by
      show k0_pay1 (F := Ideal) (ix2 i j) = 0
      pointwise [k0_pay1]
    exact ⟨h 0, h 1⟩
  | n + 1, hn => by
    obtain ⟨h0, h1⟩ := sums0_first n (by omega)
    have hs : sums0 X (n + 1) = sumStep (rows0 X n) (sums0 X n) := by show (if n < 32 then _ else _) = _; rw [if_pos (by omega)]
    rw [hs, sumStep_sum, sumStep_dev, h0, h1]
    refine ⟨?_, rfl⟩
    rw [Nat.mul_succ]
    exact sum_block _ _ 512 _ fun r => rows0_at X j n r _ (by rw [Nat.mod_eq_of_lt (by omega)])

/-- After `n` more points: the sums, and the squared deviations of the rows so far. -/
theorem sums0_second : ∀ n ≤ 32, sums0 X (32 + n) (ix2 0 j) = colSum X j ∧ sums0 X (32 + n) (ix2 1 j) = ∑ k ∈ Finset.range (512 * n), ext (sqDev X j) k
  | 0, _ => by
    obtain ⟨h0, h1⟩ := sums0_first X j 32 le_rfl
    exact ⟨h0.trans (sum_ext _), h1⟩
  | n + 1, hn => by
    obtain ⟨h0, h1⟩ := sums0_second n (by omega)
    have hs : sums0 X (32 + (n + 1)) = devStep (rows0 X (32 + n)) (sums0 X (32 + n)) := by
      show (if 32 + n < 32 then _ else _) = _; rw [if_neg (by omega)]; rfl
    rw [hs, devStep_sum, devStep_dev, h0, h1]
    refine ⟨rfl, ?_⟩
    rw [Nat.mul_succ]
    refine sum_block _ _ 512 _ fun r => ?_
    obtain ⟨h, e⟩ := rows0_at X j (32 + n) r (512 * n) (by omega)
    refine ⟨h, ?_⟩
    beta_reduce
    rw [e]
    rfl

/-- The means the first kernel leaves. -/
theorem stats_mean : k0_pay4 (sums0 X 64) (ix2 0 j) = colMean X j := by
  pointwise [k0_pay4]
  rw [(sums0_second X j 32 le_rfl).1]
  rfl

/-- The variances the first kernel leaves. -/
theorem stats_var : k0_pay4 (sums0 X 64) (ix2 1 j) = colVar X j := by
  pointwise [k0_pay4]
  rw [(sums0_second X j 32 le_rfl).2, sum_ext]
  rfl

/-- A quotient by the number of rows is a product with its inverse. -/
theorem div_rows (x : EReal) : Ideal.div x (Ideal.ofBits .f32 0x46800000#32) = x * Ideal.ofBits .f32 0x38800000#32 := by
  rw [const_rows, const_share]
  unfold Ideal.div
  rw [if_neg (by norm_cast), ← EReal.coe_inv]
  norm_num

/-- The reference's means. -/
theorem ref_mean : Ref.mean X (ix1 j) = colMean X j := by
  pointwise [Ref.mean]
  rw [div_rows]
  rfl

/-- The reference's variances. -/
theorem ref_var : Ref.var X (ix1 j) = colVar X j := by
  pointwise [Ref.var, Ref.dev, Ref.rows]
  have hz : (FloatOps.sitofp .f32 0#32 : Ideal .f32) = (0 : EReal) := by
    show (((0#32 : BitVec 32).toInt : ℝ) : EReal) = 0
    norm_num
  rw [hz, sub_zero, if_pos (by rw [const_rows]; norm_cast), div_rows, div_rows]
  rfl

end Cert.Proof

end
-- ==== Proof.Norm.lean ====
/-
  The normalised rows: the second kernel's, by the reciprocal square root of the variance, are the reference's, by a
  division; and every entry is a real number.
-/
module

public import proofs.«01_k».proof.Proof.Stats
public import proofs.«01_k».proof.Proof.Region1

@[expose] public section

set_option maxRecDepth 16384

noncomputable section

namespace Cert.Proof

open Cert.KernelIdeal Cert.KernelIdeal.Gen
open Idealize.ShloMosaic Idealize.ShloMosaic.VecWindow

/-- A square is not negative. -/
theorem square_nonneg (x : EReal) : 0 ≤ x * x := by
  induction x with
  | bot => simp
  | top => simp
  | coe r => rw [← EReal.coe_mul]; exact_mod_cast mul_self_nonneg r

/-- What has a square below infinity is a real number. -/
theorem real_of_sq {x : EReal} (h : x * x ≠ ⊤) : x ≠ ⊤ ∧ x ≠ ⊥ := by
  constructor
  · rintro rfl; exact h (by simp)
  · rintro rfl; exact h (by simp)

variable (X : Vec Ideal S16384x256 .f32)

/-- An entry of the normalised rows. -/
def rowNorm (i : Fin 16384) (j : Fin 256) : EReal :=
  (X (ix2 i j) - colMean X j) * Ideal.rsqrt (colVar X j + Ideal.ofBits .f32 0x3727C5AC#32)

/-- A column's sum of squared deviations is not negative. -/
theorem sum_sqDev_nonneg (j : Fin 256) : 0 ≤ ∑ i, sqDev X j i := Finset.sum_nonneg fun i _ => square_nonneg _

/-- A variance is infinity, or a real number that is not negative; then its deviations are real numbers. -/
theorem var_cases (j : Fin 256) : colVar X j = ⊤ ∨
    ((∃ r : ℝ, 0 ≤ r ∧ colVar X j = (r : EReal)) ∧ ∀ i, X (ix2 i j) - colMean X j ≠ ⊤ ∧ X (ix2 i j) - colMean X j ≠ ⊥) := by
  have h0 := sum_sqDev_nonneg X j
  by_cases ht : ∑ i, sqDev X j i = ⊤
  · left
    unfold colVar
    rw [ht, const_share, EReal.top_mul_coe_of_pos (by norm_num)]
  · right
    have hb : ∑ i, sqDev X j i ≠ ⊥ := fun h => by rw [h] at h0; exact absurd h0 (by simp)
    constructor
    · refine ⟨(∑ i, sqDev X j i).toReal * (1 / 16384), ?_, ?_⟩
      · exact mul_nonneg (EReal.toReal_nonneg h0) (by norm_num)
      · unfold colVar
        rw [const_share, EReal.coe_mul, EReal.coe_toReal ht hb]
    · intro i
      refine real_of_sq fun h => ht ?_
      have hd : sqDev X j i = ⊤ := h
      have hle : sqDev X j i ≤ ∑ k, sqDev X j k :=
        Finset.single_le_sum (f := sqDev X j) (fun k _ => square_nonneg _) (Finset.mem_univ i)
      rw [hd] at hle
      generalize ∑ k, sqDev X j k = S at hle ⊢
      exact top_le_iff.1 hle

/-- An entry of the normalised rows is a real number. -/
theorem rowNorm_real (i : Fin 16384) (j : Fin 256) : ∃ r : ℝ, rowNorm X i j = (r : EReal) := by
  obtain ⟨ε, hε, he⟩ := const_eps
  unfold rowNorm
  rw [he]
  rcases var_cases X j with h | ⟨⟨v, hv, h⟩, hx⟩
  · refine ⟨0, ?_⟩
    rw [h, EReal.top_add_coe]
    show _ * (0 : EReal) = _
    rw [mul_zero]; rfl
  · obtain ⟨h1, h2⟩ := hx i
    lift X (ix2 i j) - colMean X j to ℝ using ⟨h1, h2⟩ with d
    refine ⟨d * (Real.sqrt (v + ε))⁻¹, ?_⟩
    rw [h, ← EReal.coe_add, EReal.coe_mul]
    refine congrArg _ ?_
    show (if v + ε < 0 then _ else if v + ε = 0 then _ else _) = _
    rw [if_neg (by linarith), if_neg (by linarith)]

/-- The reference's normalised rows. -/
theorem ref_norm (i : Fin 16384) (j : Fin 256) : Ref.norm X (ix2 i j) = rowNorm X i j := by
  pointwise [Ref.norm]
  rw [ref_mean, ref_var]
  unfold rowNorm
  obtain ⟨ε, hε, he⟩ := const_eps
  rw [he]
  generalize X (ix2 i j) - colMean X j = d
  rcases var_cases X j with h | ⟨⟨v, hv, h⟩, -⟩
  · rw [h, EReal.top_add_coe]
    show Ideal.div d ⊤ = d * (0 : EReal)
    unfold Ideal.div
    rw [if_neg (by simp), EReal.inv_top]
  · rw [h, ← EReal.coe_add]
    have h1 : Ideal.sqrt ((v + ε : ℝ) : EReal) = (Real.sqrt (v + ε) : EReal) := by
      show (if v + ε < 0 then _ else _) = _
      rw [if_neg (by linarith)]
    have h2 : Ideal.rsqrt ((v + ε : ℝ) : EReal) = ((Real.sqrt (v + ε))⁻¹ : ℝ) := by
      show (if v + ε < 0 then _ else if v + ε = 0 then _ else _) = _
      rw [if_neg (by linarith), if_neg (by linarith)]
    have h3 : Real.sqrt (v + ε) ≠ 0 := (Real.sqrt_pos.2 (by linarith)).ne'
    rw [h1, h2]
    unfold Ideal.div
    rw [if_neg (by exact_mod_cast h3), EReal.coe_inv]

/-- What the first kernel leaves. -/
abbrev statsOf : Vec Ideal S2x256 .f32 := k0_pay4 (sums0 X 64)

/-- Row `r` of block `n` of 256 rows is row `256 n + r`. -/
theorem rows256_at (n : ℕ) (r : Fin 256) (j : Fin 256) (b : ℕ) (hb : b = 256 * (n % 64)) :
    ∃ h : b + r.val < 16384, rows256 X n (ix2 r j) = X (ix2 ⟨b + r.val, h⟩ j) := by
  have hr := r.isLt
  refine ⟨by omega, ?_⟩
  unfold rows256
  refine (window_at X _ 0 _ r j (by omega) (by have := j.isLt; omega)).trans (congrArg X ?_)
  subst hb
  exact congrArg _ (Fin.ext (Nat.zero_add _))

/-- The second kernel's normalised rows, block by block. -/
theorem xnOf_at (n : ℕ) (r : Fin 256) (j : Fin 256) (i : Fin 16384) (hi : i.val = 256 * (n % 64) + r.val) :
    xnOf (statsOf X) (rows256 X n) (ix2 r j) = rowNorm X i j := by
  obtain ⟨h, e⟩ := rows256_at X n r j _ rfl
  have hi' : (⟨256 * (n % 64) + r.val, h⟩ : Fin 16384) = i := Fin.ext hi.symm
  rw [hi'] at e
  have h0 : window (s := S2x256) (statsOf X) ![0, 0] S1x256.size inb_S2x256_S1x256_0_0 (ix2 0 j) = colMean X j :=
    ((window_at (statsOf X) 0 0 _ 0 j (by decide) (by have := j.isLt; omega)).trans
      (congrArg (statsOf X) (congrArg (ix2 _) (Fin.ext (Nat.zero_add _))))).trans (stats_mean X j)
  have h1 : window (s := S2x256) (statsOf X) ![1, 0] S1x256.size inb_S2x256_S1x256_1_0 (ix2 0 j) = colVar X j :=
    ((window_at (statsOf X) 1 0 _ 0 j (by decide) (by have := j.isLt; omega)).trans
      (congrArg (statsOf X) (congrArg (ix2 _) (Fin.ext (Nat.zero_add _))))).trans (stats_var X j)
  unfold xnOf rowNorm
  rw [← h0, ← h1, ← e]
  generalize window (s := S2x256) (statsOf X) ![0, 0] S1x256.size inb_S2x256_S1x256_0_0 = a0
  generalize window (s := S2x256) (statsOf X) ![1, 0] S1x256.size inb_S2x256_S1x256_1_0 = a1
  generalize rows256 X n = x
  pointwise [k1_pay120]

/-- The second kernel's normalised rows are the reference's. -/
theorem xnAll_eq : xnAll (statsOf X) X = Ref.norm X := by
  funext y
  idx_vars y
  rw [ref_norm]
  have hi := y0.isLt
  refine (congrArg (xnOf (statsOf X) (rows256 X (y0.val / 256))) ?_).trans
    (xnOf_at X (y0.val / 256) ⟨y0.val % 256, Nat.mod_lt _ (by decide)⟩ y1 y0 (show y0.val = 256 * (y0.val / 256 % 64) + y0.val % 256 by omega))
  funext a
  match a with
  | ⟨0, _⟩ => rfl
  | ⟨1, _⟩ => rfl

end Cert.Proof

end
-- ==== Proof.Nearest.lean ====
/-
  The code of each row: the kernel's running minimum and the reference's fold both end at the first code of the least distance.
-/
module

public import proofs.«01_k».proof.Proof.First
public import proofs.«01_k».proof.Proof.Norm

@[expose] public section

set_option maxRecDepth 16384

noncomputable section

namespace Cert.Proof

open Cert.KernelIdeal Cert.KernelIdeal.Gen
open Idealize.ShloMosaic Idealize.ShloMosaic.VecWindow

variable (e : Vec Ideal S8192x256 .f32) (X : Vec Ideal S16384x256 .f32)

/-- The squared distance of a row to a code. -/
def cell (x : Fin 256 → EReal) (k : Fin 8192) : EReal :=
  ∑ j, x j * x j + ∑ j, e (ix2 k j) * e (ix2 k j) - Ideal.ofBits .f32 0x40000000#32 * ∑ j, x j * e (ix2 k j)

/-- A finite sum of real numbers is a real number. -/
theorem real_sum {n : ℕ} (f : Fin n → EReal) (h : ∀ i, ∃ r : ℝ, f i = r) : ∃ r : ℝ, ∑ i, f i = (r : EReal) :=
  Finset.sum_induction f (fun x => ∃ r : ℝ, x = (r : EReal)) (fun _ _ ⟨a, ha⟩ ⟨b, hb⟩ => ⟨a + b, by rw [ha, hb, EReal.coe_add]⟩) ⟨0, rfl⟩ fun i _ => h i

/-- A product of real numbers is a real number. -/
theorem real_mul {a b : EReal} (ha : ∃ r : ℝ, a = r) (hb : ∃ r : ℝ, b = r) : ∃ r : ℝ, a * b = (r : EReal) := by
  obtain ⟨a, rfl⟩ := ha
  obtain ⟨b, rfl⟩ := hb
  exact ⟨a * b, (EReal.coe_mul a b).symm⟩

/-- A finite row's distances to a finite codebook are below infinity. -/
theorem cell_lt (he : ∀ k j, ∃ r : ℝ, e (ix2 k j) = r) (x : Fin 256 → EReal) (hx : ∀ j, ∃ r : ℝ, x j = r) (k : Fin 8192) : cell e x k < ⊤ := by
  obtain ⟨a, ha⟩ := real_sum _ fun j => real_mul (hx j) (hx j)
  obtain ⟨b, hb⟩ := real_sum _ fun j => real_mul (he k j) (he k j)
  obtain ⟨c, hc⟩ := real_sum _ fun j => real_mul (hx j) (he k j)
  unfold cell
  rw [ha, hb, hc, const_two, ← EReal.coe_add, ← EReal.coe_mul, ← EReal.coe_sub]
  exact EReal.coe_lt_top _

/-! ## The kernel's running minimum -/

/-- One block of 64 codes of the kernel's search, at one row. -/
theorem subStep_at (x2 : Vec Ideal S1x256 .f32) (dot : Vec Ideal S512x256 .f32) (E : Vec Ideal S512x1 .f32)
    (b o : ℕ) (hb : b + 512 ≤ 8192) (ho : o + 64 ≤ 512)
    (h1 : S512x1.Slices ![o, 0] S64x1) (h2 : S512x256.Slices ![o, 0] S64x256)
    (a : FVec Ideal S1x256 .f32 × IVec S1x256 32) (l : Fin 256) (D : Fin 8192 → EReal) (hD : ∀ k, D k < ⊤)
    (hq : ∀ q : Fin 512, x2 (ix2 0 l) + E (ix2 q 0) - Ideal.ofBits .f32 0x40000000#32 * dot (ix2 q l) = D ⟨b + q.val, by omega⟩)
    (h : Running D (b + o) (a.1 (ix2 0 l)) (a.2 (ix2 0 l))) :
    Running D (b + o + 64) ((subStep x2 dot E (Scalar.addi (BitVec.ofNat 32 b) (BitVec.ofNat 32 o)) o h1 h2 a).1 (ix2 0 l))
      ((subStep x2 dot E (Scalar.addi (BitVec.ofNat 32 b) (BitVec.ofNat 32 o)) o h1 h2 a).2 (ix2 0 l)) := by
  have hd : ∀ r : Fin 64, subDist x2 dot E o h1 h2 (ix2 r l) = D ⟨b + o + r.val, by omega⟩ := fun r => by
    have := hq ⟨o + r.val, by omega⟩
    rw [show (⟨b + o + r.val, _⟩ : Fin 8192) = ⟨b + (o + r.val), by omega⟩ from Fin.ext (Nat.add_assoc ..), ← this]
    pointwise [subDist]
  generalize hS : subDist x2 dot E o h1 h2 = S at hd
  obtain ⟨s, hs⟩ := exists_first (fun r : Fin 64 => S (ix2 r l)) (by decide)
  have hmin : subMin S (ix2 0 l) = S (ix2 s l) := by
    have : subMin S (ix2 0 l) = Finset.fold min (Ideal.ofBits FTy.f32 2139095040#32) (fun x => S (ix2 x l)) Finset.univ := by pointwise [subMin]
    rw [this, const_far]
    exact fold_min_first _ s hs
  have hidx : subIdx S (Scalar.addi (BitVec.ofNat 32 b) (BitVec.ofNat 32 o)) (ix2 0 l) = BitVec.ofNat 32 (b + o + s.val) := by
    have : subIdx S (Scalar.addi (BitVec.ofNat 32 b) (BitVec.ofNat 32 o)) (ix2 0 l)
        = Finset.fold IntOp.minsi 2147483647#32 (fun r => if S (ix2 r l) = S (ix2 s l) then IntOp.addi (BitVec.ofNat 32 r.val) (Scalar.addi (BitVec.ofNat 32 b) (BitVec.ofNat 32 o)) else 8192#32)
          Finset.univ := by
      rw [← hmin]
      pointwise [subIdx]
    rw [this]
    exact fold_index_first (fun r : Fin 64 => S (ix2 r l)) s hs _ (b + o) (by omega) (BitVec.ofNat_add ..).symm
  have hv : (subStep x2 dot E (Scalar.addi (BitVec.ofNat 32 b) (BitVec.ofNat 32 o)) o h1 h2 a).1 (ix2 0 l)
      = if S (ix2 s l) < a.1 (ix2 0 l) then S (ix2 s l) else a.1 (ix2 0 l) := by
    unfold subStep
    rw [hS, ← hmin]
    pointwise []
  have hw : (subStep x2 dot E (Scalar.addi (BitVec.ofNat 32 b) (BitVec.ofNat 32 o)) o h1 h2 a).2 (ix2 0 l)
      = if S (ix2 s l) < a.1 (ix2 0 l) then BitVec.ofNat 32 (b + o + s.val) else a.2 (ix2 0 l) := by
    unfold subStep
    rw [hS, ← hmin, ← hidx]
    pointwise []
  rw [hv, hw]
  exact h.step hD (by omega) (fun r => S (ix2 r l)) hd s hs

/-- One trip of the kernel's search, at one row. -/
theorem codeTrip_at (x2 : Vec Ideal S1x256 .f32) (dot : Vec Ideal S512x256 .f32) (E : Vec Ideal S512x1 .f32)
    (b : ℕ) (hb : b + 512 ≤ 8192) (a : FVec Ideal S1x256 .f32 × IVec S1x256 32) (l : Fin 256) (D : Fin 8192 → EReal) (hD : ∀ k, D k < ⊤)
    (hq : ∀ q : Fin 512, x2 (ix2 0 l) + E (ix2 q 0) - Ideal.ofBits .f32 0x40000000#32 * dot (ix2 q l) = D ⟨b + q.val, by omega⟩)
    (h : Running D b (a.1 (ix2 0 l)) (a.2 (ix2 0 l))) :
    Running D (b + 512) ((codeTrip x2 dot E (BitVec.ofNat 32 b) a).1 (ix2 0 l)) ((codeTrip x2 dot E (BitVec.ofNat 32 b) a).2 (ix2 0 l)) := by
  unfold codeTrip
  refine subStep_at x2 dot E b 448 hb (by decide) _ _ _ l D hD hq ?_
  refine subStep_at x2 dot E b 384 hb (by decide) _ _ _ l D hD hq ?_
  refine subStep_at x2 dot E b 320 hb (by decide) _ _ _ l D hD hq ?_
  refine subStep_at x2 dot E b 256 hb (by decide) _ _ _ l D hD hq ?_
  refine subStep_at x2 dot E b 192 hb (by decide) _ _ _ l D hD hq ?_
  refine subStep_at x2 dot E b 128 hb (by decide) _ _ _ l D hD hq ?_
  refine subStep_at x2 dot E b 64 hb (by decide) _ _ _ l D hD hq ?_
  exact subStep_at x2 dot E b 0 hb (by decide) _ _ _ l D hD hq h

/-- The offset of a trip's rows of the codebook. -/
theorem off1_eq : ∀ k : Fin k1_t1_loop.trips, k1_off1 k = ![512 * k.val, 0] := by decide +kernel
/-- The offset of a trip's norms of the codes. -/
theorem off2_eq : ∀ k : Fin k1_t1_loop.trips, k1_off2 k = ![512 * k.val, 0] := by decide +kernel
/-- The number of trips over the codes. -/
theorem trips1 : k1_t1_loop.trips = 16 := by decide +kernel
/-- A trip's first code, as the kernel computes it. -/
theorem word_eq : ∀ k : Fin 16, Scalar.muli (Scf.iv 0#32 1#32 k.val) 512#32 = BitVec.ofNat 32 (512 * k.val) := by decide +kernel

/-- The kernel's norms of the codes. -/
theorem normsOf_at (k : Fin 8192) : normsOf e (ix2 k 0) = ∑ j, e (ix2 k j) * e (ix2 k j) := by
  have hk := k.isLt
  have h : ∀ (w : Vec Ideal S256x256 .f32) (l : Fin 256), normBlock w (ix2 l 0) = ∑ x, w (ix2 l x) * w (ix2 l x) := fun w l => by
    pointwise [normBlock]
  refine (h _ ⟨k.val % 256, Nat.mod_lt _ (by decide)⟩).trans (Finset.sum_congr rfl fun j _ => ?_)
  have hw : ∀ inb, window e ![256 * (k.val / 256 % 32), 0] ![256, 256] inb (ix2 ⟨k.val % 256, Nat.mod_lt _ (by decide)⟩ j) = e (ix2 k j) := fun inb => by
    rw [window_at e _ _ inb _ j (by show 256 * (k.val / 256 % 32) + k.val % 256 < 8192; omega) (by omega)]
    congr 1
    refine congrArg₂ ix2 (Fin.ext ?_) (Fin.ext (Nat.zero_add _))
    show 256 * (k.val / 256 % 32) + k.val % 256 = k.val
    omega
  exact congrArg₂ (· * ·) (hw _) (hw _)

/-- The search after `k` trips, at one row of the block. -/
theorem codeTrips_at (xn : Vec Ideal S256x256 .f32) (x2 : Vec Ideal S1x256 .f32) (l : Fin 256)
    (hx2 : x2 (ix2 0 l) = ∑ j, xn (ix2 l j) * xn (ix2 l j)) (hD : ∀ k, cell e (fun j => xn (ix2 l j)) k < ⊤) : ∀ (k : ℕ) (_ : k ≤ 16),
    Running (cell e fun j => xn (ix2 l j)) (512 * k) ((codeTrips xn x2 e (normsOf e) k).1 (ix2 0 l)) ((codeTrips xn x2 e (normsOf e) k).2 (ix2 0 l))
  | 0, _ => by
    refine .inl ⟨rfl, ?_⟩
    rw [codeTrips_zero]
    have h : k1_pay122 (F := Ideal) (ix2 0 l) = Named.named κ "far" 2137108966#32 := by pointwise [k1_pay122]
    exact h.trans (IdealRules.named_const.ideal_named_scalar κ "far" _ ⊤ rfl)
  | k + 1, hk => by
    have ih := codeTrips_at xn x2 l hx2 hD k (by omega)
    have hk' : k < k1_t1_loop.trips := by rw [trips1]; omega
    show Running _ (512 * k + 512) ((codeStep xn x2 e (normsOf e) k _).1 _) ((codeStep xn x2 e (normsOf e) k _).2 _)
    unfold codeStep
    rw [dif_pos hk', word_eq ⟨k, by omega⟩]
    refine codeTrip_at _ _ _ (512 * k) (by omega) _ l _ hD (fun q => ?_) ih
    have hE : window (normsOf e) (k1_off2 ⟨k, hk'⟩) S512x1.size (k1_off2_inb ⟨k, hk'⟩) (ix2 q 0)
        = ∑ j, e (ix2 ⟨512 * k + q.val, by omega⟩ j) * e (ix2 ⟨512 * k + q.val, by omega⟩ j) :=
      (window_off (normsOf e) _ (512 * k) 0 (off2_eq ⟨k, hk'⟩) _ q 0 (by omega) (by decide)).trans (normsOf_at e ⟨512 * k + q.val, by omega⟩)
    have hP : ∀ w : Vec Ideal S512x256 .f32, k1_pay39 xn w (ix2 q l) = ∑ j, w (ix2 q j) * xn (ix2 l j) := fun w => by pointwise [k1_pay39]
    have hW : ∀ j, window e (k1_off1 ⟨k, hk'⟩) S512x256.size (k1_off1_inb ⟨k, hk'⟩) (ix2 q j) = e (ix2 ⟨512 * k + q.val, by omega⟩ j) := fun j =>
      (window_off e _ (512 * k) 0 (off1_eq ⟨k, hk'⟩) _ q j (by omega) (by omega)).trans (congrArg (fun z => e (ix2 _ z)) (Fin.ext (Nat.zero_add _)))
    have hS : ∑ j, window e (k1_off1 ⟨k, hk'⟩) S512x256.size (k1_off1_inb ⟨k, hk'⟩) (ix2 q j) * xn (ix2 l j)
        = ∑ j, xn (ix2 l j) * e (ix2 ⟨512 * k + q.val, by omega⟩ j) := Finset.sum_congr rfl fun j _ => (congrArg (· * _) (hW j)).trans (mul_comm _ _)
    rw [hE, hP, hx2, hS]
    rfl

/-- The first code of the least distance to a row. -/
def code (i : Fin 16384) : Fin 8192 := (exists_first (cell e (rowNorm X i)) (by decide)).choose

/-- The code of a row comes before every other. -/
theorem code_first (i : Fin 16384) : ∀ b, Before (cell e (rowNorm X i)) (code e X i) b := (exists_first (cell e (rowNorm X i)) (by decide)).choose_spec

/-- The codes the kernel finds for a block of rows. -/
theorem codesOf_at (he : ∀ k j, ∃ r : ℝ, e (ix2 k j) = r) (n : ℕ) (l : Fin 256) (i : Fin 16384) (hi : i.val = 256 * (n % 64) + l.val) :
    codesOf (statsOf X) (rows256 X n) e (ix2 0 l) = BitVec.ofNat 32 (code e X i).val := by
  have hx : (fun j => xnOf (statsOf X) (rows256 X n) (ix2 l j)) = rowNorm X i := funext fun j => xnOf_at X n l j i hi
  have hx2 : x2Of (statsOf X) (rows256 X n) (ix2 0 l) = ∑ j, xnOf (statsOf X) (rows256 X n) (ix2 l j) * xnOf (statsOf X) (rows256 X n) (ix2 l j) := by
    have h : ∀ (v3 v5 : Vec Ideal S1x256 .f32) (x : Vec Ideal S256x256 .f32), k1_pay121 v3 v5 x (ix2 0 l) = ∑ j, k1_pay120 v3 v5 x (ix2 l j) * k1_pay120 v3 v5 x (ix2 l j) :=
      fun v3 v5 x => by pointwise [k1_pay121]
    exact h _ _ _
  have h := codeTrips_at e (xnOf (statsOf X) (rows256 X n)) (x2Of (statsOf X) (rows256 X n)) l hx2
    (fun k => by rw [hx]; exact cell_lt e he _ (rowNorm_real X i) k) 16 le_rfl
  rw [hx] at h
  unfold codesOf
  rcases h with ⟨h, _⟩ | ⟨a, _, _, hw, hall⟩
  · exact absurd h (by decide)
  · rw [hw, (code_first e X i (a)).antisymm (hall _ (code e X i).isLt)]

/-! ## The reference's fold -/

/-- The reference's distances. -/
theorem ref_dist (i : Fin 16384) (k : Fin 8192) : Ref.dist (Ref.norm X) e (ix2 i k) = cell e (rowNorm X i) k := by
  have h : ∀ x : Vec Ideal S16384x256 .f32, Ref.dist x e (ix2 i k) = cell e (fun j => x (ix2 i j)) k := fun x => by
    unfold cell
    pointwise [Ref.dist]
  rw [h]
  exact congrArg (fun x => cell e x k) (funext fun j => ref_norm X i j)

/-- The reference's fold over a fiber whose pairs are those of the values `D`, from infinity. -/
theorem argReduce_first {s t u : Shape} {axes : List (Fin s.rank)} (D : Fin 8192 → EReal) (hD : ∀ a, D a < ⊤) (x : FVec Ideal s .f32) (y : IVec s 32)
    (ix : FVec Ideal u .f32) (iy : IVec u 32) (h : s.ReducesTo axes t) (hu : 0 < u.numel) (hix : ∀ z, ix z = (⊤ : EReal)) (j : t.Idx)
    (hL : ∀ z, h.drop z = j → ∃ a, (x z, y z) = pair D a) (hall : ∀ a, ∃ z, h.drop z = j ∧ (x z, y z) = pair D a) (c : Fin 8192) (hc : ∀ b, Before D c b) :
    Host.argReduce (Cert.ReferenceIdeal.reducer_argmin_f32_i32 (F := Ideal)) x y ix iy h hu j = pair D c := by
  rw [Ideal.argReduce_eq_reduce2, Host.reduce2_eq_foldl_fiber]
  show List.foldl _ (ix _, _) _ = _
  rw [hix]
  refine fold_all D hD _ _ (fun p hp => ?_) (fun a => ?_) c hc
  · obtain ⟨n, hn, rfl⟩ := List.mem_map.1 hp
    exact hL _ (of_decide_eq_true (List.mem_filter.1 hn).2)
  · obtain ⟨z, hz, hp⟩ := hall a
    refine List.mem_map.2 ⟨s.rowMajor z, List.mem_filter.2 ⟨List.mem_finRange _, decide_eq_true ?_⟩, ?_⟩
    · rw [Equiv.symm_apply_apply]; exact hz
    · rw [Equiv.symm_apply_apply]; exact hp

/-- A distance's row, what is left of its place when the codes are folded. -/
theorem drop_row (i : Fin 16384) (k : Fin 8192) (h : ReferenceIdeal.S16384x8192.ReducesTo [1] ReferenceIdeal.S16384) : h.drop (ix2 i k) = ix1 i := by
  funext b
  match b with
  | ⟨0, _⟩ => rfl

/-- An index of a matrix is a row and a column. -/
theorem exists_ix2 {m n : ℕ} (z : (⟨2, ![m, n]⟩ : Shape).Idx) : ∃ (a : Fin m) (b : Fin n), z = ix2 a b := by
  refine ⟨z 0, z 1, funext fun b => ?_⟩
  match b with
  | ⟨0, _⟩ => rfl
  | ⟨1, _⟩ => rfl

/-- The second of a pair known. -/
theorem snd_of {α β ι : Type} (f : ι → α × β) (g : ι → β) (hg : g = fun j => (f j).2) (j : ι) (c : α × β) (h : f j = c) : g j = c.2 := by
  subst hg; subst h; rfl

open Cert.ReferenceIdeal.Facts₀ in
/-- The reference's codes are the seconds of its fold's pairs. -/
theorem nearest_snd (d : Vec Ideal ReferenceIdeal.S16384x8192 .f32) : Ref.nearest d = fun j =>
    (Host.argReduce (ReferenceIdeal.reducer_argmin_f32_i32 (F := Ideal)) d (iotaInDim ReferenceIdeal.S16384x8192 32 1)
      (constant ReferenceIdeal.S_ .f32 0x7F800000#32) (constantI ReferenceIdeal.S_ 32 0#32) reducesTo_S16384x8192_S16384_d1 h_S_ j).2 := by
  delta Ref.nearest
  rfl

open Cert.ReferenceIdeal.Facts₀ in
/-- The reference's fold at a row whose distances are `D`. -/
theorem argReduce_row (x : Vec Ideal ReferenceIdeal.S16384x8192 .f32) (D : Fin 8192 → EReal) (hD : ∀ a, D a < ⊤) (i : Fin 16384)
    (hp : ∀ k, x (ix2 i k) = D k) (c : Fin 8192) (hc : ∀ b, Before D c b) :
    Host.argReduce (ReferenceIdeal.reducer_argmin_f32_i32 (F := Ideal)) x (iotaInDim ReferenceIdeal.S16384x8192 32 1)
      (constant ReferenceIdeal.S_ .f32 0x7F800000#32) (constantI ReferenceIdeal.S_ 32 0#32) reducesTo_S16384x8192_S16384_d1 h_S_ (ix1 i) = pair D c := by
  have hp' : ∀ k, (x (ix2 i k), iotaInDim ReferenceIdeal.S16384x8192 32 1 (ix2 i k)) = pair D k := fun k => Prod.ext (hp k) rfl
  have hix : ∀ z, constant (F := Ideal) ReferenceIdeal.S_ .f32 0x7F800000#32 z = (⊤ : EReal) := fun _ => const_far
  refine argReduce_first D hD x _ _ _ _ _ hix (ix1 i) (fun z hz => ?_) (fun a => ⟨ix2 i a, drop_row i a _, hp' a⟩) _ hc
  obtain ⟨z0, z1, rfl⟩ := exists_ix2 z
  have h0 : z0 = i := congrFun ((drop_row z0 z1 _).symm.trans hz) 0
  subst h0
  exact ⟨z1, hp' z1⟩

/-- The codes the reference finds. -/
theorem ref_nearest (he : ∀ k j, ∃ r : ℝ, e (ix2 k j) = r) (i : Fin 16384) :
    Ref.nearest (Ref.dist (Ref.norm X) e) (ix1 i) = BitVec.ofNat 32 (code e X i).val :=
  snd_of _ (Ref.nearest (Ref.dist (Ref.norm X) e)) (nearest_snd _) (ix1 i) _
    (argReduce_row _ (cell e (rowNorm X i)) (cell_lt e he _ (rowNorm_real X i)) i (ref_dist e X i) _ (code_first e X i))

end Cert.Proof

end
-- ==== Proof.Sums.lean ====
/-
  The kernel's sums of rows and numbers of rows per code, each as one sum over all the rows.
-/
module

public import proofs.«01_k».proof.Proof.Nearest
public import proofs.«01_k».proof.Proof.Region2

@[expose] public section

set_option maxRecDepth 16384

noncomputable section

namespace Cert.Proof

open Cert.KernelIdeal Cert.KernelIdeal.Gen
open Idealize.ShloMosaic Idealize.ShloMosaic.VecWindow

/-- Whether a row's code is the given one. -/
def hot (a b : Fin 8192) : EReal := if a = b then 1 else 0

/-- The kernel's comparison of two codes, as a number. -/
theorem hot_word (n : ℕ) (r : ℕ) (w : BitVec 32) (hw : w = BitVec.ofNat 32 n) (a p : Fin 8192) (hp : p.val = n + r) :
    FloatOps.sitofp (F := Ideal) .f32 (BitVec.setWidth 32 (IntOp.cmpi .eq (IntOp.addi (BitVec.ofNat 32 r) w) (BitVec.ofNat 32 a.val))) = hot a p := by
  have ha := a.isLt
  have hp' := p.isLt
  have hadd : IntOp.addi (BitVec.ofNat 32 r) w = BitVec.ofNat 32 p.val := by
    rw [hw, hp, Nat.add_comm, BitVec.ofNat_add]
    rfl
  have heq : (BitVec.ofNat 32 p.val = BitVec.ofNat 32 a.val) ↔ a = p := by
    constructor
    · intro h
      have := congrArg BitVec.toNat h
      rw [BitVec.toNat_ofNat, BitVec.toNat_ofNat, Nat.mod_eq_of_lt (by omega), Nat.mod_eq_of_lt (by omega)] at this
      exact Fin.ext this.symm
    · rintro rfl; rfl
  rw [hadd]
  show (((BitVec.setWidth 32 (IntOp.cmpi .eq (BitVec.ofNat 32 p.val) (BitVec.ofNat 32 a.val))).toInt : ℝ) : EReal) = hot a p
  unfold hot
  by_cases h : a = p
  · subst h
    simp [IntOp.cmpi]
  · have h' : ¬ BitVec.ofNat 32 p.val = BitVec.ofNat 32 a.val := fun hh => h (heq.1 hh)
    simp [IntOp.cmpi, h, beq_eq_false_iff_ne.2 h']

/-! ## The sums -/

/-- A trip's first row of the sums. -/
theorem off_dw : ∀ k : Fin k2_t1_loop.trips, k2_off1 k = ![512 * k.val, 0] := by decide +kernel
/-- The number of trips over the sums. -/
theorem trips_dw : k2_t1_loop.trips = 16 := by decide +kernel

/-- An entry of a trip's one-hot rows. -/
theorem hots_at (v : Vec Ideal S1x1x256 .i32) (c : Fin 256 → Fin 8192) (hv : ∀ l, v (ix3 0 0 l) = BitVec.ofNat 32 (c l).val) (k : ℕ) (hk : k < 16)
    (r : Fin 512) (l : Fin 256) (p : Fin 8192) (hp : p.val = 512 * k + r.val) : hots v k (ix2 r l) = hot (c l) p := by
  have h : ∀ (b : BitVec 32) (q : Fin 64), @Eq EReal (hotBlock (F := Ideal) v b (ix2 q l))
      (FloatOps.sitofp (F := Ideal) .f32 (BitVec.setWidth 32 (IntOp.cmpi .eq (IntOp.addi (BitVec.ofNat 32 q.val) b) (v (ix3 0 0 l))))) := fun b q => by
    pointwise [hotBlock, k2_pay1]
  refine (h (Scalar.addi (Scalar.muli (Scf.iv 0#32 1#32 k) 512#32) (BitVec.ofNat 32 (64 * (r.val / 64)))) ⟨r.val % 64, Nat.mod_lt _ (by decide)⟩).trans ?_
  rw [hv, word_eq ⟨k, hk⟩]
  refine hot_word (512 * k + 64 * (r.val / 64)) _ _ (BitVec.ofNat_add ..).symm _ _ ?_
  show p.val = 512 * k + 64 * (r.val / 64) + r.val % 64
  omega

/-- The sums after `k` trips on a block of 256 rows: below the trips' codes the block's rows of each code are added. -/
theorem dwTrips_at (v : Vec Ideal S1x1x256 .i32) (c : Fin 256 → Fin 8192) (hv : ∀ l, v (ix3 0 0 l) = BitVec.ofNat 32 (c l).val)
    (x : Vec Ideal S256x256 .f32) (D : Vec Ideal S8192x256 .f32) (p : Fin 8192) (j : Fin 256) : ∀ (k : ℕ) (_ : k ≤ 16),
    dwTrips v x D k (ix2 p j) = if p.val < 512 * k then D (ix2 p j) + ∑ l, hot (c l) p * x (ix2 l j) else D (ix2 p j)
  | 0, _ => (if_neg (by omega)).symm
  | k + 1, hk => by
    have ih := dwTrips_at v c hv x D p j k (by omega)
    have hk' : k < k2_t1_loop.trips := by rw [trips_dw]; omega
    show dwTrip v x k (dwTrips v x D k) (ix2 p j) = _
    generalize dwTrips v x D k = C at ih
    unfold dwTrip
    rw [dif_pos hk']
    have ho := off_dw ⟨k, hk'⟩
    by_cases h : 512 * k ≤ p.val ∧ p.val < 512 * k + 512
    · have hpay : ∀ (h : Vec Ideal S512x256 .bf16) (W : Vec Ideal S512x256 .f32) (r : Fin 512), k2_pay6 x h W (ix2 r j) = W (ix2 r j) + ∑ l, h (ix2 r l) * x (ix2 l j) :=
        fun h W r => by pointwise [k2_pay6]
      have hput : ∀ w : Vec Ideal S512x256 .f32, put C (k2_off1 ⟨k, hk'⟩) S512x256.size w (ix2 p j) = w (ix2 ⟨p.val - 512 * k, by omega⟩ j) := fun w => by
        rw [ho]
        exact put_hit C (512 * k) w p j ⟨p.val - 512 * k, by omega⟩ (by show p.val = 512 * k + (p.val - 512 * k); omega)
      rw [if_neg (by omega)] at ih
      rw [hput, hpay, if_pos (by omega), ← ih]
      refine congrArg₂ (· + ·) ?_ (Finset.sum_congr rfl fun l _ => congrArg (· * _) ?_)
      · refine (window_off C _ (512 * k) 0 ho _ ⟨p.val - 512 * k, by omega⟩ j (by show 512 * k + (p.val - 512 * k) < 8192; omega) (by omega)).trans ?_
        refine congrArg C (congrArg₂ ix2 (Fin.ext ?_) (Fin.ext (Nat.zero_add _)))
        show 512 * k + (p.val - 512 * k) = p.val
        omega
      · exact hots_at v c hv k (by omega) _ l p (by show p.val = 512 * k + (p.val - 512 * k); omega)
    · have hput : ∀ w : Vec Ideal S512x256 .f32, put C (k2_off1 ⟨k, hk'⟩) S512x256.size w (ix2 p j) = C (ix2 p j) := fun w => by
        rw [ho]
        exact put_miss C (512 * k) w p j (by omega)
      rw [hput, ih]
      by_cases h1 : p.val < 512 * k
      · rw [if_pos h1, if_pos (by omega)]
      · rw [if_neg h1, if_neg (by omega)]

/-- Row `l` of point `n`'s block among all rows. -/
def rowOf (n : ℕ) (l : Fin 256) : Fin 16384 := ⟨256 * (n % 64) + l.val, by omega⟩

/-- The kernel's sums: for each code, of the rows that chose it. -/
theorem dwSums_at (I : Vec Ideal S64x1x256 .i32) (c : Fin 16384 → Fin 8192) (Y : Vec Ideal S16384x256 .f32)
    (hI : ∀ (n : Fin 64) (l : Fin 256), I (ix3 n 0 l) = BitVec.ofNat 32 (c (rowOf n.val l)).val) (p : Fin 8192) (j : Fin 256) : ∀ (n : ℕ) (_ : n ≤ 64),
    dwSums I Y n (ix2 p j) = ∑ k ∈ Finset.range (256 * n), ext (fun i => hot (c i) p * Y (ix2 i j)) k
  | 0, _ => by
    show Scalar.ofBits (F := Ideal) .f32 0x00000000#32 = _
    rw [Nat.mul_zero, Finset.sum_range_zero]
    exact Ideal.ofBits_zero_f32
  | n + 1, hn => by
    have ih := dwSums_at I c Y hI p j n (by omega)
    have hv : ∀ l, idxRows I n (ix3 0 0 l) = BitVec.ofNat 32 (c (rowOf n l)).val := fun l => by
      rw [← hI ⟨n, by omega⟩ l]
      unfold idxRows window
      refine congrArg I (funext fun a => Fin.ext ?_)
      match a with
      | ⟨0, _⟩ => show n % 64 + 1 * 0 = n; omega
      | ⟨1, _⟩ => rfl
      | ⟨2, _⟩ => show 0 + 1 * l.val = l.val; omega
    show dwTrips (idxRows I n) (rows256 Y n) (dwSums I Y n) 16 (ix2 p j) = _
    rw [dwTrips_at _ _ hv _ _ p j 16 le_rfl, if_pos (by omega), ih]
    refine sum_block _ (256 * n) 256 _ fun l => ⟨by omega, ?_⟩
    have hr : rowOf n l = ⟨256 * n + l.val, by omega⟩ := Fin.ext (show 256 * (n % 64) + l.val = 256 * n + l.val by omega)
    rw [← hr]
    exact congrArg (hot (c (rowOf n l)) p * ·) (rows256_at Y n l j _ rfl).choose_spec

/-! ## The numbers -/

/-- A sub-block's first row of the numbers, the number of trips. -/
theorem off_cnt : ∀ (k : Fin k1_t2_loop.trips) (c : Fin 8), k1_off3 k (BitVec.ofNat 32 (64 * c.val)) = ![512 * k.val + 64 * c.val, 0] := by decide +kernel
/-- The number of trips over the numbers. -/
theorem trips_cnt : k1_t2_loop.trips = 16 := by decide +kernel

/-- One more sub-block of the numbers: from `lo` on, the rows below the sub-block's end hold `g`. -/
theorem cntPut (v : Vec Ideal S1x256 .i32) (c : Fin 256 → Fin 8192) (hv : ∀ l, v (ix2 0 l) = BitVec.ofNat 32 (c l).val)
    (k : Fin k1_t2_loop.trips) (q : Fin 8) (C W : Vec Ideal S8192x1 .f32) (p : Fin 8192)
    (hW : W (ix2 p 0) = if 512 * k.val ≤ p.val ∧ p.val < 512 * k.val + 64 * q.val then C (ix2 p 0) + ∑ l, hot (c l) p else C (ix2 p 0)) :
    put W (k1_off3 k (BitVec.ofNat 32 (64 * q.val))) S64x1.size (cntPiece v k q C) (ix2 p 0)
      = if 512 * k.val ≤ p.val ∧ p.val < 512 * k.val + 64 * q.val + 64 then C (ix2 p 0) + ∑ l, hot (c l) p else C (ix2 p 0) := by
  have ho := off_cnt k q
  have hk : k.val < 16 := lt_of_lt_of_eq k.isLt trips_cnt
  have hq := q.isLt
  by_cases h : 512 * k.val + 64 * q.val ≤ p.val ∧ p.val < 512 * k.val + 64 * q.val + 64
  · have hput : ∀ w : Vec Ideal S64x1 .f32, put W (k1_off3 k (BitVec.ofNat 32 (64 * q.val))) S64x1.size w (ix2 p 0)
        = w (ix2 ⟨p.val - (512 * k.val + 64 * q.val), by omega⟩ 0) := fun w => by
      rw [ho]
      exact put_hit W _ w p 0 ⟨p.val - (512 * k.val + 64 * q.val), by omega⟩ (by show p.val = _ + (p.val - (512 * k.val + 64 * q.val)); omega)
    have hblk : ∀ (b : BitVec 32) (r : Fin 64), cntBlock v b (ix2 r 0)
        = ∑ l, FloatOps.sitofp (F := Ideal) .f32 (BitVec.setWidth 32 (IntOp.cmpi .eq (IntOp.addi (BitVec.ofNat 32 r.val) b) (v (ix2 0 l)))) := fun b r => by
      pointwise [cntBlock]
    rw [hput, if_pos (by omega)]
    unfold cntPiece
    refine congrArg₂ (· + ·) ?_ ((hblk _ _).trans (Finset.sum_congr rfl fun l _ => ?_))
    · refine (window_off C _ (512 * k.val + 64 * q.val) 0 ho _ ⟨p.val - (512 * k.val + 64 * q.val), by omega⟩ 0
        (by show 512 * k.val + 64 * q.val + (p.val - (512 * k.val + 64 * q.val)) < 8192; omega) (by decide)).trans ?_
      refine congrArg C (congrArg₂ ix2 (Fin.ext ?_) rfl)
      show 512 * k.val + 64 * q.val + (p.val - (512 * k.val + 64 * q.val)) = p.val
      omega
    · rw [hv, word_eq ⟨k.val, hk⟩]
      exact hot_word (512 * k.val + 64 * q.val) _ _ (BitVec.ofNat_add ..).symm _ _
        (by show p.val = 512 * k.val + 64 * q.val + (p.val - (512 * k.val + 64 * q.val)); omega)
  · have hput : ∀ w : Vec Ideal S64x1 .f32, put W (k1_off3 k (BitVec.ofNat 32 (64 * q.val))) S64x1.size w (ix2 p 0) = W (ix2 p 0) := fun w => by
      rw [ho]
      exact put_miss W _ w p 0 (by omega)
    rw [hput, hW]
    by_cases h1 : 512 * k.val ≤ p.val ∧ p.val < 512 * k.val + 64 * q.val
    · rw [if_pos h1, if_pos (by omega)]
    · rw [if_neg h1, if_neg (by omega)]

/-- The numbers after one trip. -/
theorem cntTrip_at (v : Vec Ideal S1x256 .i32) (c : Fin 256 → Fin 8192) (hv : ∀ l, v (ix2 0 l) = BitVec.ofNat 32 (c l).val)
    (k : Fin k1_t2_loop.trips) (C : Vec Ideal S8192x1 .f32) (p : Fin 8192) :
    cntTrip v k C (ix2 p 0) = if 512 * k.val ≤ p.val ∧ p.val < 512 * k.val + 512 then C (ix2 p 0) + ∑ l, hot (c l) p else C (ix2 p 0) := by
  unfold cntTrip
  refine cntPut v c hv k 7 C _ p ?_
  refine cntPut v c hv k 6 C _ p ?_
  refine cntPut v c hv k 5 C _ p ?_
  refine cntPut v c hv k 4 C _ p ?_
  refine cntPut v c hv k 3 C _ p ?_
  refine cntPut v c hv k 2 C _ p ?_
  refine cntPut v c hv k 1 C _ p ?_
  refine cntPut v c hv k 0 C _ p ?_
  exact (if_neg (by show ¬ (_ ∧ _ < 512 * k.val + 64 * 0); omega)).symm

/-- The numbers after `k` trips on a block of 256 rows. -/
theorem cntTrips_at (v : Vec Ideal S1x256 .i32) (c : Fin 256 → Fin 8192) (hv : ∀ l, v (ix2 0 l) = BitVec.ofNat 32 (c l).val)
    (C : Vec Ideal S8192x1 .f32) (p : Fin 8192) : ∀ (k : ℕ) (_ : k ≤ 16),
    cntTrips v C k (ix2 p 0) = if p.val < 512 * k then C (ix2 p 0) + ∑ l, hot (c l) p else C (ix2 p 0)
  | 0, _ => (if_neg (by omega)).symm
  | k + 1, hk => by
    have ih := cntTrips_at v c hv C p k (by omega)
    have hk' : k < k1_t2_loop.trips := by rw [trips_cnt]; omega
    show (if h : k < k1_t2_loop.trips then cntTrip v ⟨k, h⟩ (cntTrips v C k) else cntTrips v C k) (ix2 p 0) = _
    rw [dif_pos hk', cntTrip_at v c hv, ih]
    by_cases h : 512 * k ≤ p.val ∧ p.val < 512 * k + 512
    · rw [if_pos h, if_neg (by omega), if_pos (by omega)]
    · rw [if_neg h]
      by_cases h1 : p.val < 512 * k
      · rw [if_pos h1, if_pos (by omega)]
      · rw [if_neg h1, if_neg (by omega)]

/-- The kernel's numbers: for each code, of rows that chose it. -/
theorem cntsOf_at (s : Vec Ideal S2x256 .f32) (X : Vec Ideal S16384x256 .f32) (e : Vec Ideal S8192x256 .f32) (c : Fin 16384 → Fin 8192)
    (hI : ∀ (n : ℕ) (l : Fin 256), codesOf s (rows256 X n) e (ix2 0 l) = BitVec.ofNat 32 (c (rowOf n l)).val) (p : Fin 8192) : ∀ (n : ℕ) (_ : n ≤ 64),
    cntsOf s X e n (ix2 p 0) = ∑ k ∈ Finset.range (256 * n), ext (fun i => hot (c i) p) k
  | 0, _ => by
    show Scalar.ofBits (F := Ideal) .f32 0x00000000#32 = _
    rw [Nat.mul_zero, Finset.sum_range_zero]
    exact Ideal.ofBits_zero_f32
  | n + 1, hn => by
    have ih := cntsOf_at s X e c hI p n (by omega)
    show cntTrips (codesOf s (rows256 X n) e) (cntsOf s X e n) 16 (ix2 p 0) = _
    rw [cntTrips_at _ _ (hI n) _ p 16 le_rfl, if_pos (by omega), ih]
    refine sum_block _ (256 * n) 256 _ fun l => ⟨by omega, ?_⟩
    have hr : rowOf n l = ⟨256 * n + l.val, by omega⟩ := Fin.ext (show 256 * (n % 64) + l.val = 256 * n + l.val by omega)
    rw [← hr]

end Cert.Proof

end
-- ==== Proof.Scatter.lean ====
/-
  The reference's two scatters: the sums of the rows of each code and the numbers of rows of each code.
-/
module

public import proofs.«01_k».proof.Proof.Sums
public import proofs.«01_k».proof.Proof.RefValue
public import Idealize.ShloMosaic.Lib.Routing.OpsPair

@[expose] public section

set_option maxRecDepth 16384

noncomputable section

namespace Cert.Proof

open Cert.ReferenceIdeal Cert.ReferenceIdeal.Gen
open Idealize.ShloMosaic

/-! ## Where an update lands -/

/-- Row `i`'s entry `j` lands at code `k`'s entry `j'` exactly when `k` is the row's code and `j'` is `j`. -/
theorem lands_row (idx : IVec S16384x1 32) (i : Fin 16384) (c : Fin 8192) (h : idx (ix2 i 0) = BitVec.ofNat 32 c.val) (j j' : Fin 256) (k : Fin 8192) :
    scatter_S8192x256_S16384x1_S16384x256_1_0_0_1.resultIdx? (ix2 i j) idx = some (ix2 k j') ↔ c = k ∧ j = j' := by
  have hs0 : scatter_S8192x256_S16384x1_S16384x256_1_0_0_1.start (ix2 i j) idx 0 = (idx (ix2 i 0)).toInt := by
    unfold ScatterDims.start
    rw [dif_pos (by decide)]
    refine congrArg (fun z => (idx z).toInt) (funext fun b => ?_)
    match b with
    | ⟨0, _⟩ => rfl
    | ⟨1, _⟩ => rfl
  have hs1 : scatter_S8192x256_S16384x1_S16384x256_1_0_0_1.start (ix2 i j) idx 1 = 0 := by
    unfold ScatterDims.start
    rw [dif_neg (by decide)]
  have hw0 : scatter_S8192x256_S16384x1_S16384x256_1_0_0_1.window (ix2 i j) 0 = 0 := by
    unfold ScatterDims.window
    rw [dif_neg (by decide)]
  have hw1 : scatter_S8192x256_S16384x1_S16384x256_1_0_0_1.window (ix2 i j) 1 = j.val := by
    unfold ScatterDims.window
    rw [dif_pos (by decide)]
    rfl
  have hc := c.isLt
  rw [Routing.resultIdx?_eq_some]
  constructor
  · intro hall
    have h0 := hall 0
    have h1 := hall 1
    rw [hs0, hw0, h, toInt_small _ (by omega)] at h0
    rw [hs1, hw1] at h1
    have h0' : (c.val : ℤ) + (0 : ℕ) = (k.val : ℤ) := h0
    have h1' : (0 : ℤ) + (j.val : ℤ) = (j'.val : ℤ) := h1
    exact ⟨Fin.ext (by omega), Fin.ext (by omega)⟩
  · rintro ⟨rfl, rfl⟩ a
    match a with
    | ⟨0, _⟩ =>
      refine (congrArg₂ (fun (x : ℤ) (y : ℕ) => x + y) hs0 hw0).trans ?_
      rw [h, toInt_small _ (by omega)]
      exact add_zero _
    | ⟨1, _⟩ => exact (congrArg₂ (fun (x : ℤ) (y : ℕ) => x + y) hs1 hw1).trans (zero_add _)

/-- Row `i`'s one lands at code `k` exactly when `k` is the row's code. -/
theorem lands_one (idx : IVec S16384x1 32) (i : Fin 16384) (c : Fin 8192) (h : idx (ix2 i 0) = BitVec.ofNat 32 c.val) (k : Fin 8192) :
    scatter_S8192_S16384x1_S16384_n_0_0_1.resultIdx? (ix1 i) idx = some (ix1 k) ↔ c = k := by
  have hs0 : scatter_S8192_S16384x1_S16384_n_0_0_1.start (ix1 i) idx 0 = (idx (ix2 i 0)).toInt := by
    unfold ScatterDims.start
    rw [dif_pos (by decide)]
    refine congrArg (fun z => (idx z).toInt) (funext fun b => ?_)
    match b with
    | ⟨0, _⟩ => rfl
    | ⟨1, _⟩ => rfl
  have hw0 : scatter_S8192_S16384x1_S16384_n_0_0_1.window (ix1 i) 0 = 0 := by
    unfold ScatterDims.window
    rw [dif_neg (by decide)]
  have hc := c.isLt
  rw [Routing.resultIdx?_eq_some]
  constructor
  · intro hall
    have h0 := hall 0
    rw [hs0, hw0, h, toInt_small _ (by omega)] at h0
    have h0' : (c.val : ℤ) + (0 : ℕ) = (k.val : ℤ) := h0
    exact Fin.ext (by omega)
  · rintro rfl a
    match a with
    | ⟨0, _⟩ =>
      refine (congrArg₂ (fun (x : ℤ) (y : ℕ) => x + y) hs0 hw0).trans ?_
      rw [h, toInt_small _ (by omega)]
      exact add_zero _

/-! ## The sums -/

/-- The reference's sums: for each code, of the rows that chose it. -/
theorem ref_sums (v : Vec Ideal S16384 .i32) (Y : Vec Ideal S16384x256 .f32) (c : Fin 16384 → Fin 8192) (hv : ∀ i, v (ix1 i) = BitVec.ofNat 32 (c i).val)
    (k : Fin 8192) (j : Fin 256) : Ref.sums v Y (ix2 k j) = ∑ i, hot (c i) k * Y (ix2 i j) := by
  have hidx : ∀ i, broadcastInDim S16384x1 ![0] bcast_S16384_S16384x1_0 v (ix2 i 0) = BitVec.ofNat 32 (c i).val := fun i => by
    rw [← hv i]
    pointwise []
  have hz : broadcastInDim S8192x256 ![] bcast_S_S8192x256 (constant (F := Ideal) S_ .f32 0x00000000#32) (ix2 k j) = (0 : EReal) := Ideal.ofBits_zero_f32
  show Ideal.hostScatterAdd scatter_S8192x256_S16384x1_S16384x256_1_0_0_1 _ _ Y (ix2 k j) = _
  unfold Ideal.hostScatterAdd
  rw [Finset.sum_filter, sum_idx2]
  refine (congrArg₂ (· + ·) hz (Finset.sum_congr rfl fun i _ => ?_)).trans (zero_add _)
  refine (Finset.sum_congr rfl fun q _ => if_congr (lands_row _ i (c i) (hidx i) q j k) rfl rfl).trans ?_
  unfold hot
  by_cases h : c i = k
  · simp [h]
  · simp [h]

/-! ## The numbers -/

/-- A fold that adds one where a test holds. -/
theorem fold_count {m : ℕ} (P : Fin m → Prop) [DecidablePred P] (u : Fin m → BitVec 32) (hu : ∀ n, u n = 1#32) : ∀ (L : List (Fin m)) (a : ℕ),
    L.foldl (fun a n => if P n then IntOp.addi a (u n) else a) (BitVec.ofNat 32 a) = BitVec.ofNat 32 (a + (L.map fun n => if P n then 1 else 0).sum)
  | [], _ => rfl
  | n :: L, a => by
    rw [List.foldl_cons, List.map_cons, List.sum_cons]
    by_cases h : P n
    · rw [if_pos h, if_pos h, hu, ← Nat.add_assoc]
      exact (congrArg (fun z => L.foldl _ z) (BitVec.ofNat_add ..).symm).trans (fold_count P u hu L (a + 1))
    · rw [if_neg h, if_neg h, Nat.zero_add]
      exact fold_count P u hu L a

/-- A scatter that adds ones to zeros counts the updates that land. -/
theorem scatter_count {s si u : Shape} (d : ScatterDims s si u) (x0 : IVec s 32) (idx : IVec si 32) (upd : IVec u 32) (hx : ∀ z, x0 z = 0#32) (hu : ∀ z, upd z = 1#32)
    (ι : s.Idx) : Host.scatter d IntOp.addi x0 idx upd ι = BitVec.ofNat 32 (∑ z, if d.resultIdx? z idx = some ι then 1 else 0) := by
  rw [Routing.scatter_at, hx]
  refine (fold_count (fun n => d.resultIdx? (u.rowMajor.symm n) idx = some ι) (fun n => upd (u.rowMajor.symm n)) (fun _ => hu _) _ 0).trans ?_
  rw [Nat.zero_add, ← Fin.sum_univ_def, ← Equiv.sum_comp u.rowMajor.symm]

/-- A sum of naturals as one of extended reals. -/
theorem cast_sum {n : ℕ} (f : Fin n → ℕ) : (((∑ i, f i : ℕ) : ℝ) : EReal) = ∑ i, ((f i : ℝ) : EReal) := by
  rw [Nat.cast_sum]
  exact map_sum (⟨⟨fun r : ℝ => (r : EReal), rfl⟩, EReal.coe_add⟩ : ℝ →+ EReal) _ _

/-- The codes the reference counts with are the codes. -/
theorem wrapped_at (v : Vec Ideal S16384 .i32) (i : Fin 16384) (c : Fin 8192) (hv : v (ix1 i) = BitVec.ofNat 32 c.val) :
    Ref.wrapped (F := Ideal) v (ix1 i) = BitVec.ofNat 32 c.val := by
  have hc := c.isLt
  have h0 : IntOp.maxsi 0#32 (BitVec.ofNat 32 c.val) = BitVec.ofNat 32 c.val := by
    unfold IntOp.maxsi
    rw [BitVec.slt_eq_decide, toInt_small c.val (by omega)]
    split
    · rename_i h
      have h' : (c.val : ℤ) < 0 := of_decide_eq_true h
      omega
    · rfl
  have h1 : IntOp.cmpi .slt (BitVec.ofNat 32 c.val) 0#32 = 0#1 := by
    show BitVec.ofBool ((BitVec.ofNat 32 c.val).slt 0#32) = 0#1
    rw [BitVec.slt_eq_decide, toInt_small c.val (by omega), BitVec.toInt_zero, decide_eq_false (show ¬ (c.val : ℤ) < 0 by omega)]
    rfl
  have hid : id (constantI S_ 32 0#32) ix0 = 0#32 := rfl
  pointwise [Ref.wrapped, Ref.clipped]
  rw [hv, hid, h0, h1]
  rfl

/-- The reference's numbers: for each code, of rows that chose it. -/
theorem ref_counts (v : Vec Ideal S16384 .i32) (c : Fin 16384 → Fin 8192) (hv : ∀ i, v (ix1 i) = BitVec.ofNat 32 (c i).val) (k : Fin 8192) :
    Ref.counts v (ix1 k) = ∑ i, hot (c i) k := by
  have hidx : ∀ i, broadcastInDim S16384x1 ![0] bcast_S16384_S16384x1_0 (Ref.wrapped (F := Ideal) v) (ix2 i 0) = BitVec.ofNat 32 (c i).val := fun i => by
    rw [← wrapped_at v i (c i) (hv i)]
    generalize Ref.wrapped (F := Ideal) v = w
    pointwise []
  have hcnt : Host.scatter scatter_S8192_S16384x1_S16384_n_0_0_1 IntOp.addi (broadcastInDim S8192 ![] bcast_S_S8192 (constantI S_ 32 0#32))
      (broadcastInDim S16384x1 ![0] bcast_S16384_S16384x1_0 (Ref.wrapped (F := Ideal) v)) (broadcastInDim S16384 ![] bcast_S_S16384 (constantI S_ 32 1#32)) (ix1 k)
      = BitVec.ofNat 32 (∑ i, if c i = k then 1 else 0) := by
    refine (scatter_count _ _ _ _ (fun _ => rfl) (fun _ => rfl) _).trans ?_
    rw [sum_idx1]
    exact congrArg (BitVec.ofNat 32) (Finset.sum_congr rfl fun i _ => if_congr (lands_one _ i (c i) (hidx i) k) rfl rfl)
  have hle : (∑ i, if c i = k then 1 else 0) ≤ 16384 := by
    refine (Finset.sum_le_card_nsmul _ _ 1 fun i _ => ?_).trans ?_
    · split <;> omega
    · rw [Finset.card_univ, Fintype.card_fin, smul_eq_mul]
  refine (congrArg (fun b : BitVec 32 => ((b.toInt : ℝ) : EReal)) hcnt).trans ?_
  show (((BitVec.ofNat 32 (∑ i, if c i = k then 1 else 0)).toInt : ℝ) : EReal) = _
  rw [toInt_small _ (by omega), Int.cast_natCast, cast_sum]
  refine Finset.sum_congr rfl fun i _ => ?_
  unfold hot
  by_cases h : c i = k
  · simp [h]
  · simp [h]

end Cert.Proof

end
-- ==== Proof.Equation.lean ====
/-
  The equation: what the kernel leaves in the result is what the reference leaves, for every finite codebook.
-/
module

public import proofs.«01_k».proof.Proof.Scatter
public import proofs.«01_k».proof.Proof.Run

@[expose] public section

set_option maxRecDepth 16384

noncomputable section

namespace Cert.Proof

open Cert.KernelIdeal Cert.KernelIdeal.Gen
open Idealize.ShloMosaic Idealize.ShloMosaic.VecWindow

/-- An entry of the result from its column's mean and unbiased variance, its code's number of rows, sum, running number and entry. -/
def entry (m u n d r e : EReal) : EReal :=
  Ideal.div (r * e * Ideal.ofBits .f32 0x3F666666#32 + Ideal.ofBits .f32 0x3DCCCCCD#32 * d)
    (r * Ideal.ofBits .f32 0x3F666666#32 + Ideal.ofBits .f32 0x3DCCCCCD#32 * n) * Ideal.sqrt (u + Ideal.ofBits .f32 0x3727C5AC#32) + m

/-- An entry of what the final kernel leaves. -/
theorem finalOf_at (s : Vec Ideal S2x256 .f32) (e : Vec Ideal S8192x256 .f32) (r : Vec Ideal S8192x1 .f32) (d : Vec Ideal S8192x256 .f32) (n : Vec Ideal S8192x1 .f32)
    (k : Fin 8192) (j : Fin 256) : finalOf s e r d n (ix2 k j)
      = entry (s (ix2 0 j)) (s (ix2 1 j) * Ideal.ofBits .f32 0x3F800200#32) (n (ix2 k 0)) (d (ix2 k j)) (r (ix2 k 0)) (e (ix2 k j)) := by
  have hk := k.isLt
  have hp : ∀ (a b : Vec Ideal S1x256 .f32) (n r : Vec Ideal S512x1 .f32) (d e : Vec Ideal S512x256 .f32) (q : Fin 512), k3_pay1 a b n d r e (ix2 q j)
      = entry (a (ix2 0 j)) (b (ix2 0 j) * Ideal.ofBits .f32 0x3F800200#32) (n (ix2 q 0)) (d (ix2 q j)) (r (ix2 q 0)) (e (ix2 q j)) := fun a b n r d e q => by
    unfold entry
    pointwise [k3_pay1]
  have hm : window s ![0, 0] S1x256.size inb_S2x256_S1x256_0_0 (ix2 0 j) = s (ix2 0 j) :=
    (window_at s 0 0 _ 0 j (by decide) (by omega)).trans (congrArg s (congrArg (ix2 _) (Fin.ext (Nat.zero_add _))))
  have hv : window s ![1, 0] S1x256.size inb_S2x256_S1x256_1_0 (ix2 0 j) = s (ix2 1 j) :=
    (window_at s 1 0 _ 0 j (by decide) (by omega)).trans (congrArg s (congrArg (ix2 _) (Fin.ext (Nat.zero_add _))))
  have hq : 512 * (k.val / 512 % 16) + k.val % 512 = k.val := by omega
  have hw : ∀ x : Vec Ideal S8192x256 .f32, wide3 x (k.val / 512) (ix2 ⟨k.val % 512, Nat.mod_lt _ (by decide)⟩ j) = x (ix2 k j) := fun x =>
    (window_at x _ 0 _ _ j (by show 512 * (k.val / 512 % 16) + k.val % 512 < 8192; omega) (by omega)).trans
      (congrArg x (congrArg₂ ix2 (Fin.ext hq) (Fin.ext (Nat.zero_add _))))
  have ht : ∀ x : Vec Ideal S8192x1 .f32, thin3 x (k.val / 512) (ix2 ⟨k.val % 512, Nat.mod_lt _ (by decide)⟩ 0) = x (ix2 k 0) := fun x =>
    (window_at x _ 0 _ _ 0 (by show 512 * (k.val / 512 % 16) + k.val % 512 < 8192; omega) (by decide)).trans
      (congrArg x (congrArg₂ ix2 (Fin.ext hq) rfl))
  have hy : finalOf s e r d n (ix2 k j) = finalStep s (wide3 e (k.val / 512)) (thin3 r (k.val / 512)) (wide3 d (k.val / 512)) (thin3 n (k.val / 512))
      (ix2 ⟨k.val % 512, Nat.mod_lt _ (by decide)⟩ j) := by
    unfold finalOf
    refine congrArg (finalStep _ _ _ _ _) (funext fun a => ?_)
    match a with
    | ⟨0, _⟩ => rfl
    | ⟨1, _⟩ => rfl
  rw [hy]
  unfold finalStep
  rw [hp, hm, hv, ht, hw, ht, hw]

/-- An entry of what the reference leaves, from its parts. -/
theorem ref_final_at (e : Vec Ideal S8192x256 .f32) (r : Vec Ideal S8192 .f32) (d : Vec Ideal S8192x256 .f32) (n : Vec Ideal S8192 .f32) (u m : Vec Ideal S256 .f32)
    (k : Fin 8192) (j : Fin 256) : Ref.final e r d n u m (ix2 k j) = entry (m (ix1 j)) (u (ix1 j)) (n (ix1 k)) (d (ix2 k j)) (r (ix1 k)) (e (ix2 k j)) := by
  unfold entry
  pointwise [Ref.final]

/-- The reference's unbiased variances. -/
theorem ref_unbiased (X : Vec Ideal S16384x256 .f32) (j : Fin 256) : Ref.unbiased X (ix1 j) = colVar X j * Ideal.ofBits .f32 0x3F800200#32 := by
  rw [← ref_var X j]
  unfold Ref.unbiased
  generalize Ref.var X = v
  pointwise []

variable (X : Vec Ideal S16384x256 .f32) (e : Vec Ideal S8192x256 .f32) (r : Vec Ideal S8192 .f32) (he : ∀ k j, ∃ x : ℝ, e (ix2 k j) = x)

include he

/-- The kernel's sums are the reference's. -/
theorem sums_eq (k : Fin 8192) (j : Fin 256) : dwSums (idxAll (statsOf X) X e) (xnAll (statsOf X) X) 64 (ix2 k j)
    = Ref.sums (Ref.nearest (Ref.dist (Ref.norm X) e)) (Ref.norm X) (ix2 k j) := by
  rw [ref_sums _ _ (code e X) (ref_nearest e X he), xnAll_eq, ← sum_ext]
  refine dwSums_at _ (code e X) (Ref.norm X) (fun n l => ?_) k j 64 le_rfl
  have h : ∀ v : Vec Ideal S1x256 .i32, idxOf v (ix3 0 0 l) = v (ix2 0 l) := fun v => by pointwise [idxOf]
  exact (h _).trans (codesOf_at e X he n.val l _ rfl)

/-- The kernel's numbers are the reference's. -/
theorem counts_eq (k : Fin 8192) : cntsOf (statsOf X) X e 64 (ix2 k 0) = Ref.counts (Ref.nearest (Ref.dist (Ref.norm X) e)) (ix1 k) := by
  rw [ref_counts _ (code e X) (ref_nearest e X he), ← sum_ext]
  exact cntsOf_at _ X e (code e X) (fun n l => codesOf_at e X he n l _ rfl) k 64 le_rfl

/-- What the kernel leaves is what the reference leaves. -/
theorem kernelOut_eq : kernelOut X e r = Ref.out X e r := by
  funext y
  obtain ⟨k, j, rfl⟩ := exists_ix2 y
  have hr : shapeCast S8192x1 r shapeCasts_S8192_S8192x1 (ix2 k 0) = r (ix1 k) := by pointwise []
  have hm : statsOf X (ix2 0 j) = colMean X j := stats_mean X j
  have hv : statsOf X (ix2 1 j) = colVar X j := stats_var X j
  show finalOf (statsOf X) e _ (dwSums (idxAll (statsOf X) X e) (xnAll (statsOf X) X) 64) (cntsOf (statsOf X) X e 64) (ix2 k j) = Ref.final e r _ _ _ _ (ix2 k j)
  rw [finalOf_at, ref_final_at, ref_mean, ref_unbiased, hm, hv, counts_eq X e he, sums_eq X e he, hr]

end Cert.Proof

end
-- ==== Proof.Algebraic.lean ====
/-
  The kernel and the reference end with the same result, wherever every entry of the codebook is finite.
-/
module

public import proofs.«01_k».proof.Proof.Frames
public import proofs.«01_k».proof.Proof.Equation

@[expose] public section

set_option maxRecDepth 16384

noncomputable section

namespace Cert.Proof

open Idealize.ShloMosaic Idealize.SL.Sem

/-- The one shape relation the precondition states. -/
instance preFacts : Cert.Pre_finite_codebook.Facts := ⟨by decide⟩

/-- An extended real whose absolute value lies below infinity is a real. -/
theorem real_of_abs_lt {a : EReal} (h : max a (-a) < ⊤) : ∃ x : ℝ, a = x := by
  induction a using EReal.rec with
  | bot => simp at h
  | coe x => exact ⟨x, rfl⟩
  | top => simp at h

/-- Where the precondition holds, every entry of the codebook is a real. -/
theorem codebook_real (X : FVec Ideal Cert.Pre_finite_codebook.S16384x256 .f32) (e : FVec Ideal Cert.Pre_finite_codebook.S8192x256 .f32)
    (r : FVec Ideal Cert.Pre_finite_codebook.S8192 .f32) (h : Cert.Pre_finite_codebook.fn X e r = fun _ => 1#1)
    (k : Fin 8192) (j : Fin 256) : ∃ x : ℝ, e (ix2 k j) = x := by
  have hc := congrFun h (ix2 k j)
  have hl : BitVec.ofBool (decide (max (e (ix2 k j)) (-(e (ix2 k j))) < Ideal.ofBits .f32 0x7F800000#32)) = 1#1 := hc
  rw [const_far] at hl
  refine real_of_abs_lt ?_
  by_contra hn
  rw [decide_eq_false hn] at hl
  exact absurd hl (by decide)

/-- The frame of the idealised kernel, under the precondition too. -/
theorem frame_ideal_pre : quiescent_KernelIdeal_pre_finite_codebook := fun m g _ => frame_ideal m g trivial

/-- The frame of the reference, under the precondition too. -/
theorem frame_reference_pre : quiescent_ReferenceIdeal_pre_finite_codebook := fun m g _ => frame_reference m g trivial

/-- From the same arguments, with a finite codebook, the kernel and the reference end with the same result: the
    kernel's, which is the reference's by `kernelOut_eq`. -/
theorem same_result : algebraic_KernelIdeal_ReferenceIdeal_pre_finite_codebook := by
  intro m g m' g' hpre hargs
  refine ⟨fun c => kernelOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    (θ_run _ _ _).mono (fun _ h => h.1) (run (F := Ideal) m g),
    (θ_run _ _ _).mono (fun _ h c => ⟨(h.1 c).1.trans ?_, (h.1 c).2⟩) (Ref.run (F := Ideal) m' g')⟩
  rw [(hargs c).1, (hargs c).2.1, (hargs c).2.2]
  exact (kernelOut_eq _ _ _ (codebook_real _ _ _ (hpre c))).symm

end Cert.Proof

end
-- ==== Proof.lean ====
/-
  The certificate: the frames of the kernel, of its idealised print and of the reference, the one rewrite between the
  first two, and the equality of the kernel's result with the reference's.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

/-- Everything the certificate claims. -/
theorem claim : Cert.Claim :=
  ⟨Cert.Kernel.Gen.facts, Cert.KernelIdeal.Gen.facts, Cert.ReferenceIdeal.Gen.facts, preFacts,
    frame_kernel, frame_ideal, frame_ideal_pre, frame_reference, frame_reference_pre, preserved, same_result⟩

end Cert.Proof

end
